-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_KernelIdeal_nearest_unique [hPre_nearest_unique : Cert.Pre_nearest_unique.Facts] (m : (ℓ : Loc Cert.KernelIdeal.nD Cert.KernelIdeal.τ Cert.KernelIdeal.sig) → Buf (Elt Ideal) ℓ) : Prop :=
  ∀ c : Dev Cert.KernelIdeal.nD,
    (Cert.Pre_nearest_unique.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_nearest_unique.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_KernelIdeal_hardest_unique [hPre_hardest_unique : Cert.Pre_hardest_unique.Facts] (m : (ℓ : Loc Cert.KernelIdeal.nD Cert.KernelIdeal.τ Cert.KernelIdeal.sig) → Buf (Elt Ideal) ℓ) : Prop :=
  ∀ c : Dev Cert.KernelIdeal.nD,
    (Cert.Pre_hardest_unique.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_hardest_unique.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_hardest_unique.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_ReferenceIdeal_nearest_unique [hPre_nearest_unique : Cert.Pre_nearest_unique.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nearest_unique.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_nearest_unique.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_ReferenceIdeal_hardest_unique [hPre_hardest_unique : Cert.Pre_hardest_unique.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_hardest_unique.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_hardest_unique.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_hardest_unique.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_nearest_unique [hKernelIdeal : Cert.KernelIdeal.Facts] [hPre_nearest_unique : Cert.Pre_nearest_unique.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nearest_unique m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_hardest_unique [hKernelIdeal : Cert.KernelIdeal.Facts] [hPre_hardest_unique : Cert.Pre_hardest_unique.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_hardest_unique m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_nearest_unique [hReferenceIdeal : Cert.ReferenceIdeal.Facts] [hPre_nearest_unique : Cert.Pre_nearest_unique.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nearest_unique m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_hardest_unique [hReferenceIdeal : Cert.ReferenceIdeal.Facts] [hPre_hardest_unique : Cert.Pre_hardest_unique.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_hardest_unique m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "c_eps_eps" .f32 0x2F0CBCCC#32 ((77371252064649 / 604462909807314587353088 : ℝ) : EReal)

def algebraic_KernelIdeal_ReferenceIdeal_on_only_dist_pre_drawn [hKernelIdeal : Cert.KernelIdeal.Facts] [hReferenceIdeal : Cert.ReferenceIdeal.Facts] [hPre_drawn : Cert.Pre_drawn.Facts] [hOn_only_dist : Cert.On_only_dist.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4_1)) (v1 : (c : Dev Cert.KernelIdeal.nD) → Buf (Elt Ideal) ((c.tc : Thread Cert.KernelIdeal.nD Cert.KernelIdeal.τ).loc Cert.KernelIdeal.main_v4_2)) (v2 : (c : Dev Cert.KernelIdeal.nD) → Buf (Elt Ideal) ((c.tc : Thread Cert.KernelIdeal.nD Cert.KernelIdeal.τ).loc Cert.KernelIdeal.main_v4_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1, 1]⟩ : Shape).Idx, (Cert.On_only_dist.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.KernelIdeal.nD Cert.KernelIdeal.τ).loc Cert.KernelIdeal.main_v4_1) i = v0 c i)
          ∧ (∀ i : (⟨2, ![1, 1]⟩ : Shape).Idx, (Cert.On_only_dist.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 i = 1#1 → r.2.mem ((c.tc : Thread Cert.KernelIdeal.nD Cert.KernelIdeal.τ).loc Cert.KernelIdeal.main_v4_2) i = v1 c i)
          ∧ (∀ i : (⟨2, ![4096, 1]⟩ : Shape).Idx, (Cert.On_only_dist.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 i = 1#1 → r.2.mem ((c.tc : Thread Cert.KernelIdeal.nD Cert.KernelIdeal.τ).loc Cert.KernelIdeal.main_v4_0) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![1, 1]⟩ : Shape).Idx, (Cert.On_only_dist.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.ReferenceIdeal.nD Cert.ReferenceIdeal.τ).loc Cert.ReferenceIdeal.main_v131) i = v0 c i)
          ∧ (∀ i : (⟨2, ![1, 1]⟩ : Shape).Idx, (Cert.On_only_dist.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 i = 1#1 → r.2.mem ((c.tc : Thread Cert.ReferenceIdeal.nD Cert.ReferenceIdeal.τ).loc Cert.ReferenceIdeal.main_v132) i = v1 c i)
          ∧ (∀ i : (⟨2, ![4096, 1]⟩ : Shape).Idx, (Cert.On_only_dist.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 i = 1#1 → r.2.mem ((c.tc : Thread Cert.ReferenceIdeal.nD Cert.ReferenceIdeal.τ).loc Cert.ReferenceIdeal.main_v133) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def algebraic_KernelIdeal_ReferenceIdeal_on_only_recall_pre_nearest_unique [hKernelIdeal : Cert.KernelIdeal.Facts] [hReferenceIdeal : Cert.ReferenceIdeal.Facts] [hPre_nearest_unique : Cert.Pre_nearest_unique.Facts] [hOn_only_recall : Cert.On_only_recall.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nearest_unique m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4_1)) (v1 : (c : Dev Cert.KernelIdeal.nD) → Buf (Elt Ideal) ((c.tc : Thread Cert.KernelIdeal.nD Cert.KernelIdeal.τ).loc Cert.KernelIdeal.main_v4_2)) (v2 : (c : Dev Cert.KernelIdeal.nD) → Buf (Elt Ideal) ((c.tc : Thread Cert.KernelIdeal.nD Cert.KernelIdeal.τ).loc Cert.KernelIdeal.main_v4_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1, 1]⟩ : Shape).Idx, (Cert.On_only_recall.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.KernelIdeal.nD Cert.KernelIdeal.τ).loc Cert.KernelIdeal.main_v4_1) i = v0 c i)
          ∧ (∀ i : (⟨2, ![1, 1]⟩ : Shape).Idx, (Cert.On_only_recall.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 i = 1#1 → r.2.mem ((c.tc : Thread Cert.KernelIdeal.nD Cert.KernelIdeal.τ).loc Cert.KernelIdeal.main_v4_2) i = v1 c i)
          ∧ (∀ i : (⟨2, ![4096, 1]⟩ : Shape).Idx, (Cert.On_only_recall.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 i = 1#1 → r.2.mem ((c.tc : Thread Cert.KernelIdeal.nD Cert.KernelIdeal.τ).loc Cert.KernelIdeal.main_v4_0) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![1, 1]⟩ : Shape).Idx, (Cert.On_only_recall.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.ReferenceIdeal.nD Cert.ReferenceIdeal.τ).loc Cert.ReferenceIdeal.main_v131) i = v0 c i)
          ∧ (∀ i : (⟨2, ![1, 1]⟩ : Shape).Idx, (Cert.On_only_recall.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 i = 1#1 → r.2.mem ((c.tc : Thread Cert.ReferenceIdeal.nD Cert.ReferenceIdeal.τ).loc Cert.ReferenceIdeal.main_v132) i = v1 c i)
          ∧ (∀ i : (⟨2, ![4096, 1]⟩ : Shape).Idx, (Cert.On_only_recall.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 i = 1#1 → r.2.mem ((c.tc : Thread Cert.ReferenceIdeal.nD Cert.ReferenceIdeal.τ).loc Cert.ReferenceIdeal.main_v133) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def algebraic_KernelIdeal_ReferenceIdeal_on_only_loss_pre_hardest_unique [hKernelIdeal : Cert.KernelIdeal.Facts] [hReferenceIdeal : Cert.ReferenceIdeal.Facts] [hPre_hardest_unique : Cert.Pre_hardest_unique.Facts] [hOn_only_loss : Cert.On_only_loss.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_hardest_unique m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4_1)) (v1 : (c : Dev Cert.KernelIdeal.nD) → Buf (Elt Ideal) ((c.tc : Thread Cert.KernelIdeal.nD Cert.KernelIdeal.τ).loc Cert.KernelIdeal.main_v4_2)) (v2 : (c : Dev Cert.KernelIdeal.nD) → Buf (Elt Ideal) ((c.tc : Thread Cert.KernelIdeal.nD Cert.KernelIdeal.τ).loc Cert.KernelIdeal.main_v4_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1, 1]⟩ : Shape).Idx, (Cert.On_only_loss.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.KernelIdeal.nD Cert.KernelIdeal.τ).loc Cert.KernelIdeal.main_v4_1) i = v0 c i)
          ∧ (∀ i : (⟨2, ![1, 1]⟩ : Shape).Idx, (Cert.On_only_loss.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 i = 1#1 → r.2.mem ((c.tc : Thread Cert.KernelIdeal.nD Cert.KernelIdeal.τ).loc Cert.KernelIdeal.main_v4_2) i = v1 c i)
          ∧ (∀ i : (⟨2, ![4096, 1]⟩ : Shape).Idx, (Cert.On_only_loss.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 i = 1#1 → r.2.mem ((c.tc : Thread Cert.KernelIdeal.nD Cert.KernelIdeal.τ).loc Cert.KernelIdeal.main_v4_0) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![1, 1]⟩ : Shape).Idx, (Cert.On_only_loss.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.ReferenceIdeal.nD Cert.ReferenceIdeal.τ).loc Cert.ReferenceIdeal.main_v131) i = v0 c i)
          ∧ (∀ i : (⟨2, ![1, 1]⟩ : Shape).Idx, (Cert.On_only_loss.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 i = 1#1 → r.2.mem ((c.tc : Thread Cert.ReferenceIdeal.nD Cert.ReferenceIdeal.τ).loc Cert.ReferenceIdeal.main_v132) i = v1 c i)
          ∧ (∀ i : (⟨2, ![4096, 1]⟩ : Shape).Idx, (Cert.On_only_loss.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 i = 1#1 → r.2.mem ((c.tc : Thread Cert.ReferenceIdeal.nD Cert.ReferenceIdeal.τ).loc Cert.ReferenceIdeal.main_v133) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_drawn : Cert.Pre_drawn.Facts) (hPre_nearest_unique : Cert.Pre_nearest_unique.Facts) (hPre_hardest_unique : Cert.Pre_hardest_unique.Facts) (hOn_only_dist : Cert.On_only_dist.Facts) (hOn_only_recall : Cert.On_only_recall.Facts) (hOn_only_loss : Cert.On_only_loss.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_KernelIdeal_pre_nearest_unique (hKernelIdeal := hKernelIdeal) (hPre_nearest_unique := hPre_nearest_unique)
    ∧ quiescent_KernelIdeal_pre_hardest_unique (hKernelIdeal := hKernelIdeal) (hPre_hardest_unique := hPre_hardest_unique)
    ∧ quiescent_ReferenceIdeal (hReferenceIdeal := hReferenceIdeal)
    ∧ quiescent_ReferenceIdeal_pre_drawn (hReferenceIdeal := hReferenceIdeal) (hPre_drawn := hPre_drawn)
    ∧ quiescent_ReferenceIdeal_pre_nearest_unique (hReferenceIdeal := hReferenceIdeal) (hPre_nearest_unique := hPre_nearest_unique)
    ∧ quiescent_ReferenceIdeal_pre_hardest_unique (hReferenceIdeal := hReferenceIdeal) (hPre_hardest_unique := hPre_hardest_unique)
    ∧ preserves_Kernel_KernelIdeal
    ∧ algebraic_KernelIdeal_ReferenceIdeal_on_only_dist_pre_drawn (hKernelIdeal := hKernelIdeal) (hReferenceIdeal := hReferenceIdeal) (hPre_drawn := hPre_drawn) (hOn_only_dist := hOn_only_dist)
    ∧ algebraic_KernelIdeal_ReferenceIdeal_on_only_recall_pre_nearest_unique (hKernelIdeal := hKernelIdeal) (hReferenceIdeal := hReferenceIdeal) (hPre_nearest_unique := hPre_nearest_unique) (hOn_only_recall := hOn_only_recall)
    ∧ algebraic_KernelIdeal_ReferenceIdeal_on_only_loss_pre_hardest_unique (hKernelIdeal := hKernelIdeal) (hReferenceIdeal := hReferenceIdeal) (hPre_hardest_unique := hPre_hardest_unique) (hOn_only_loss := hOn_only_loss)
-- ==== On_only_dist.lean ====
abbrev S128x4096 : Shape := ⟨2, ![128, 4096]⟩
abbrev S2x4096 : Shape := ⟨2, ![2, 4096]⟩
abbrev S_ : Shape := ⟨0, ![]⟩
abbrev S1x1 : Shape := ⟨2, ![1, 1]⟩
abbrev S4096x1 : Shape := ⟨2, ![4096, 1]⟩

class Facts : Prop where
  bcast_S_S1x1 : S_.BroadcastsInDim S1x1 (![] : Fin 0 → Fin S1x1.rank)
  bcast_S_S4096x1 : S_.BroadcastsInDim S4096x1 (![] : Fin 0 → Fin S4096x1.rank)

variable [Facts]

def fn {F : FTy → Type} [FloatOps F] (main_arg0 : FVec F S128x4096 .f32) (main_arg1 : FVec F S128x4096 .f32) (main_arg2 : IVec S2x4096 32) (main_arg3 : IVec S_ 32) : IVec S1x1 1 × IVec S1x1 1 × IVec S4096x1 1 :=
  let main_c : IVec S_ 1 := constantI S_ 1 0#1
  let main_v0 : IVec S1x1 1 := broadcastInDim S1x1 ![] bcast_S_S1x1 main_c
  let main_c_0 : IVec S_ 1 := constantI S_ 1 0#1
  let main_v1 : IVec S1x1 1 := broadcastInDim S1x1 ![] bcast_S_S1x1 main_c_0
  let main_c_1 : IVec S_ 1 := constantI S_ 1 1#1
  let main_v2 : IVec S4096x1 1 := broadcastInDim S4096x1 ![] bcast_S_S4096x1 main_c_1
  (main_v0, main_v1, main_v2)
-- ==== On_only_loss.lean ====
abbrev S128x4096 : Shape := ⟨2, ![128, 4096]⟩
abbrev S2x4096 : Shape := ⟨2, ![2, 4096]⟩
abbrev S_ : Shape := ⟨0, ![]⟩
abbrev S1x1 : Shape := ⟨2, ![1, 1]⟩
abbrev S4096x1 : Shape := ⟨2, ![4096, 1]⟩

class Facts : Prop where
  bcast_S_S1x1 : S_.BroadcastsInDim S1x1 (![] : Fin 0 → Fin S1x1.rank)
  bcast_S_S4096x1 : S_.BroadcastsInDim S4096x1 (![] : Fin 0 → Fin S4096x1.rank)

variable [Facts]

def fn {F : FTy → Type} [FloatOps F] (main_arg0 : FVec F S128x4096 .f32) (main_arg1 : FVec F S128x4096 .f32) (main_arg2 : IVec S2x4096 32) (main_arg3 : IVec S_ 32) : IVec S1x1 1 × IVec S1x1 1 × IVec S4096x1 1 :=
  let main_c : IVec S_ 1 := constantI S_ 1 1#1
  let main_v0 : IVec S1x1 1 := broadcastInDim S1x1 ![] bcast_S_S1x1 main_c
  let main_c_0 : IVec S_ 1 := constantI S_ 1 0#1
  let main_v1 : IVec S1x1 1 := broadcastInDim S1x1 ![] bcast_S_S1x1 main_c_0
  let main_c_1 : IVec S_ 1 := constantI S_ 1 0#1
  let main_v2 : IVec S4096x1 1 := broadcastInDim S4096x1 ![] bcast_S_S4096x1 main_c_1
  (main_v0, main_v1, main_v2)
-- ==== On_only_recall.lean ====
abbrev S128x4096 : Shape := ⟨2, ![128, 4096]⟩
abbrev S2x4096 : Shape := ⟨2, ![2, 4096]⟩
abbrev S_ : Shape := ⟨0, ![]⟩
abbrev S1x1 : Shape := ⟨2, ![1, 1]⟩
abbrev S4096x1 : Shape := ⟨2, ![4096, 1]⟩

class Facts : Prop where
  bcast_S_S1x1 : S_.BroadcastsInDim S1x1 (![] : Fin 0 → Fin S1x1.rank)
  bcast_S_S4096x1 : S_.BroadcastsInDim S4096x1 (![] : Fin 0 → Fin S4096x1.rank)

variable [Facts]

def fn {F : FTy → Type} [FloatOps F] (main_arg0 : FVec F S128x4096 .f32) (main_arg1 : FVec F S128x4096 .f32) (main_arg2 : IVec S2x4096 32) (main_arg3 : IVec S_ 32) : IVec S1x1 1 × IVec S1x1 1 × IVec S4096x1 1 :=
  let main_c : IVec S_ 1 := constantI S_ 1 0#1
  let main_v0 : IVec S1x1 1 := broadcastInDim S1x1 ![] bcast_S_S1x1 main_c
  let main_c_0 : IVec S_ 1 := constantI S_ 1 1#1
  let main_v1 : IVec S1x1 1 := broadcastInDim S1x1 ![] bcast_S_S1x1 main_c_0
  let main_c_1 : IVec S_ 1 := constantI S_ 1 0#1
  let main_v2 : IVec S4096x1 1 := broadcastInDim S4096x1 ![] bcast_S_S4096x1 main_c_1
  (main_v0, main_v1, main_v2)
-- ==== Pre_drawn.lean ====
abbrev S128x4096 : Shape := ⟨2, ![128, 4096]⟩
abbrev S2x4096 : Shape := ⟨2, ![2, 4096]⟩
abbrev S_ : Shape := ⟨0, ![]⟩

class Facts : Prop where
  bcast_S_S2x4096 : S_.BroadcastsInDim S2x4096 (![] : Fin 0 → Fin S2x4096.rank)

variable [Facts]

def fn {F : FTy → Type} [FloatOps F] (main_arg0 : FVec F S128x4096 .f32) (main_arg1 : FVec F S128x4096 .f32) (main_arg2 : IVec S2x4096 32) (main_arg3 : IVec S_ 32) : IVec S2x4096 1 × IVec S_ 1 :=
  let main_c : IVec S_ 32 := constantI S_ 32 0#32
  let main_v0 : IVec S2x4096 32 := broadcastInDim S2x4096 ![] bcast_S_S2x4096 main_c
  let main_v1 : IVec S2x4096 1 := cmpi .sge main_arg2 main_v0
  let main_c_0 : IVec S_ 32 := constantI S_ 32 512#32
  let main_v2 : IVec S2x4096 32 := broadcastInDim S2x4096 ![] bcast_S_S2x4096 main_c_0
  let main_v3 : IVec S2x4096 1 := cmpi .slt main_arg2 main_v2
  let main_v4 : IVec S2x4096 1 := andi main_v1 main_v3
  let main_c_1 : IVec S_ 32 := constantI S_ 32 0#32
  let main_v5 : IVec S_ 1 := cmpi .sge main_arg3 main_c_1
  (main_v4, main_v5)
-- ==== Pre_hardest_unique.lean ====
abbrev S128x4096 : Shape := ⟨2, ![128, 4096]⟩
abbrev S2x4096 : Shape := ⟨2, ![2, 4096]⟩
abbrev S_ : Shape := ⟨0, ![]⟩
abbrev S4096 : Shape := ⟨1, ![4096]⟩
abbrev S1x4096 : Shape := ⟨2, ![1, 4096]⟩
abbrev S4096x128 : Shape := ⟨2, ![4096, 128]⟩
abbrev S4096x4096 : Shape := ⟨2, ![4096, 4096]⟩
abbrev S4096x1 : Shape := ⟨2, ![4096, 1]⟩

class Facts : Prop where
  reducesTo_S128x4096_S4096_d0 : S128x4096.ReducesTo [0] S4096
  h_S_ : 0 < S_.numel
  bcast_S4096_S1x4096_1 : S4096.BroadcastsInDim S1x4096 (![1] : Fin 1 → Fin S1x4096.rank)
  bcast_S_S1x4096 : S_.BroadcastsInDim S1x4096 (![] : Fin 0 → Fin S1x4096.rank)
  bcast_S1x4096_S128x4096_0_1 : S1x4096.BroadcastsInDim S128x4096 (![0, 1] : Fin 2 → Fin S128x4096.rank)
  transposes_S128x4096_S4096x128_1_0 : S128x4096.Transposes [1, 0] S4096x128
  bcast_S_S4096x4096 : S_.BroadcastsInDim S4096x4096 (![] : Fin 0 → Fin S4096x4096.rank)
  slices_S2x4096_S1x4096_0_0 : S2x4096.Slices ![0, 0] S1x4096
  shapeCasts_S1x4096_S4096 : S1x4096.ShapeCasts S4096
  slices_S2x4096_S1x4096_1_0 : S2x4096.Slices ![1, 0] S1x4096
  bcast_S4096_S4096x1_0 : S4096.BroadcastsInDim S4096x1 (![0] : Fin 1 → Fin S4096x1.rank)
  bcast_S1x4096_S4096x4096_0_1 : S1x4096.BroadcastsInDim S4096x4096 (![0, 1] : Fin 2 → Fin S4096x4096.rank)
  bcast_S4096x1_S4096x4096_0_1 : S4096x1.BroadcastsInDim S4096x4096 (![0, 1] : Fin 2 → Fin S4096x4096.rank)
  reducesTo_S4096x4096_S4096_d1 : S4096x4096.ReducesTo [1] S4096
  bcast_S_S2x4096 : S_.BroadcastsInDim S2x4096 (![] : Fin 0 → Fin S2x4096.rank)
  bcast_S_S4096 : S_.BroadcastsInDim S4096 (![] : Fin 0 → Fin S4096.rank)
  dot_S4096x128_S128x4096_S4096x4096_1_0_0_1_n_n_wf : DotDims.WF S4096x128 S128x4096 S4096x4096 [1] [0] [0] [1] [] []

variable [Facts]

def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf
def fn_clip {F : FTy → Type} [FloatOps F] (arg0 : FVec F S4096x4096 .f32) (arg1 : FVec F S_ .f32) (arg2 : FVec F S_ .f32) : FVec F S4096x4096 .f32 :=
  let v0 : FVec F S_ .f32 := id arg1
  let v1 : FVec F S4096x4096 .f32 := broadcastInDim S4096x4096 ![] bcast_S_S4096x4096 v0
  let v2 : FVec F S4096x4096 .f32 := maximumf v1 arg0
  let v3 : FVec F S_ .f32 := id arg2
  let v4 : FVec F S4096x4096 .f32 := broadcastInDim S4096x4096 ![] bcast_S_S4096x4096 v3
  let v5 : FVec F S4096x4096 .f32 := minimumf v4 v2
  v5

def fn_where {F : FTy → Type} [FloatOps F] (arg0 : IVec S4096x4096 1) (arg1 : FVec F S_ .f32) (arg2 : FVec F S4096x4096 .f32) : FVec F S4096x4096 .f32 :=
  let v0 : FVec F S_ .f32 := id arg1
  let v1 : FVec F S4096x4096 .f32 := broadcastInDim S4096x4096 ![] bcast_S_S4096x4096 v0
  let v2 : FVec F S4096x4096 .f32 := select arg0 v1 arg2
  v2

def fn_where_0 {F : FTy → Type} [FloatOps F] (arg0 : IVec S4096x4096 1) (arg1 : FVec F S_ .f32) (arg2 : FVec F S_ .f32) : FVec F S4096x4096 .f32 :=
  let v0 : FVec F S4096x4096 .f32 := broadcastInDim S4096x4096 ![] bcast_S_S4096x4096 arg1
  let v1 : FVec F S4096x4096 .f32 := broadcastInDim S4096x4096 ![] bcast_S_S4096x4096 arg2
  let v2 : FVec F S4096x4096 .f32 := select arg0 v0 v1
  v2

def fn_part3 {F : FTy → Type} [FloatOps F] (main_arg3 : IVec S_ 32) (main_v52 : FVec F S4096 .f32) (main_v54 : IVec S2x4096 1) (main_v56 : IVec S2x4096 1) : IVec S2x4096 1 × IVec S_ 1 × IVec S4096 1 :=
  let main_v57 : IVec S2x4096 1 := andi main_v54 main_v56
  let main_c_13 : IVec S_ 32 := constantI S_ 32 0#32
  let main_v58 : IVec S_ 1 := cmpi .sge main_arg3 main_c_13
  let main_cst_14 : FVec F S_ .f32 := constant S_ .f32 0x3F800000#32
  let main_v59 : FVec F S4096 .f32 := broadcastInDim S4096 ![] bcast_S_S4096 main_cst_14
  let main_v60 : IVec S4096 1 := cmpf .oeq main_v52 main_v59
  (main_v57, main_v58, main_v60)

def fn_part2 {F : FTy → Type} [FloatOps F] (main_arg2 : IVec S2x4096 32) (main_arg3 : IVec S_ 32) (main_v23 : FVec F S4096x4096 .f32) (main_v35 : IVec S4096x4096 1) (main_v38 : IVec S4096x4096 32) (main_v39 : IVec S4096x4096 32) : IVec S2x4096 1 × IVec S_ 1 × IVec S4096 1 :=
  let main_v40 : IVec S4096x4096 32 := subi main_v38 main_v39
  let main_v41 : IVec S4096x4096 32 := absi main_v40
  let main_v42 : IVec S4096x4096 32 := broadcastInDim S4096x4096 ![] bcast_S_S4096x4096 main_arg3
  let main_v43 : IVec S4096x4096 1 := cmpi .sle main_v41 main_v42
  let main_v44 : IVec S4096x4096 1 := andi main_v35 main_v43
  let main_cst_7 : FVec F S_ .f32 := constant S_ .f32 0x40000000#32
  let main_v45 : FVec F S4096x4096 .f32 := fn_where (F := F) main_v44 main_cst_7 main_v23
  let main_cst_8 : FVec F S_ .f32 := constant S_ .f32 0x7F800000#32
  let main_v46 : FVec F S4096 .f32 := (fun x v => Host.reduce FloatOps.minimumf x v reducesTo_S4096x4096_S4096_d1 h_S_) main_v45 main_cst_8
  let main_v47 : FVec F S4096x1 .f32 := broadcastInDim S4096x1 ![0] bcast_S4096_S4096x1_0 main_v46
  let main_v48 : FVec F S4096x4096 .f32 := broadcastInDim S4096x4096 ![0, 1] bcast_S4096x1_S4096x4096_0_1 main_v47
  let main_v49 : IVec S4096x4096 1 := cmpf .oeq main_v45 main_v48
  let main_cst_9 : FVec F S_ .f32 := constant S_ .f32 0x3F800000#32
  let main_cst_10 : FVec F S_ .f32 := constant S_ .f32 0x00000000#32
  let main_v50 : FVec F S4096x4096 .f32 := fn_where_0 (F := F) main_v49 main_cst_9 main_cst_10
  let main_v51 : FVec F S4096x4096 .f32 := id main_v50
  let main_cst_11 : FVec F S_ .f32 := constant S_ .f32 0x00000000#32
  let main_v52 : FVec F S4096 .f32 := (fun x v => Host.reduceAdd x v reducesTo_S4096x4096_S4096_d1 h_S_) main_v51 main_cst_11
  let main_c : IVec S_ 32 := constantI S_ 32 0#32
  let main_v53 : IVec S2x4096 32 := broadcastInDim S2x4096 ![] bcast_S_S2x4096 main_c
  let main_v54 : IVec S2x4096 1 := cmpi .sge main_arg2 main_v53
  let main_c_12 : IVec S_ 32 := constantI S_ 32 512#32
  let main_v55 : IVec S2x4096 32 := broadcastInDim S2x4096 ![] bcast_S_S2x4096 main_c_12
  let main_v56 : IVec S2x4096 1 := cmpi .slt main_arg2 main_v55
  fn_part3 (F := F) main_arg3 main_v52 main_v54 main_v56

def fn_part1 {F : FTy → Type} [FloatOps F] (main_arg2 : IVec S2x4096 32) (main_arg3 : IVec S_ 32) (main_v17 : FVec F S4096x4096 .f32) (main_cst_3 : FVec F S_ .f32) (main_cst_4 : FVec F S_ .f32) : IVec S2x4096 1 × IVec S_ 1 × IVec S4096 1 :=
  let main_v18 : FVec F S4096x4096 .f32 := fn_clip (F := F) main_v17 main_cst_3 main_cst_4
  let main_cst_5 : FVec F S_ .f32 := constant S_ .f32 0x40000000#32
  let main_v19 : FVec F S4096x4096 .f32 := broadcastInDim S4096x4096 ![] bcast_S_S4096x4096 main_cst_5
  let main_v20 : FVec F S4096x4096 .f32 := mulf main_v19 main_v18
  let main_cst_6 : FVec F S_ .f32 := constant S_ .f32 0x40000000#32
  let main_v21 : FVec F S4096x4096 .f32 := broadcastInDim S4096x4096 ![] bcast_S_S4096x4096 main_cst_6
  let main_v22 : FVec F S4096x4096 .f32 := subf main_v21 main_v20
  let main_v23 : FVec F S4096x4096 .f32 := Host.sqrt main_v22
  let main_v24 : IVec S1x4096 32 := (extractStridedSlice S1x4096 ![0, 0] · slices_S2x4096_S1x4096_0_0) main_arg2
  let main_v25 : IVec S4096 32 := shapeCast S4096 main_v24 shapeCasts_S1x4096_S4096
  let main_v26 : IVec S1x4096 32 := (extractStridedSlice S1x4096 ![1, 0] · slices_S2x4096_S1x4096_1_0) main_arg2
  let main_v27 : IVec S4096 32 := shapeCast S4096 main_v26 shapeCasts_S1x4096_S4096
  let main_v28 : IVec S1x4096 32 := broadcastInDim S1x4096 ![1] bcast_S4096_S1x4096_1 main_v25
  let main_v29 : IVec S4096x1 32 := broadcastInDim S4096x1 ![0] bcast_S4096_S4096x1_0 main_v25
  let main_v30 : IVec S4096x4096 32 := broadcastInDim S4096x4096 ![0, 1] bcast_S1x4096_S4096x4096_0_1 main_v28
  let main_v31 : IVec S4096x4096 32 := broadcastInDim S4096x4096 ![0, 1] bcast_S4096x1_S4096x4096_0_1 main_v29
  let main_v32 : IVec S4096x4096 32 := subi main_v30 main_v31
  let main_v33 : IVec S4096x4096 32 := absi main_v32
  let main_v34 : IVec S4096x4096 32 := broadcastInDim S4096x4096 ![] bcast_S_S4096x4096 main_arg3
  let main_v35 : IVec S4096x4096 1 := cmpi .sle main_v33 main_v34
  let main_v36 : IVec S1x4096 32 := broadcastInDim S1x4096 ![1] bcast_S4096_S1x4096_1 main_v27
  let main_v37 : IVec S4096x1 32 := broadcastInDim S4096x1 ![0] bcast_S4096_S4096x1_0 main_v27
  let main_v38 : IVec S4096x4096 32 := broadcastInDim S4096x4096 ![0, 1] bcast_S1x4096_S4096x4096_0_1 main_v36
  let main_v39 : IVec S4096x4096 32 := broadcastInDim S4096x4096 ![0, 1] bcast_S4096x1_S4096x4096_0_1 main_v37
  fn_part2 (F := F) main_arg2 main_arg3 main_v23 main_v35 main_v38 main_v39

def fn {F : FTy → Type} [FloatOps F] (main_arg0 : FVec F S128x4096 .f32) (main_arg1 : FVec F S128x4096 .f32) (main_arg2 : IVec S2x4096 32) (main_arg3 : IVec S_ 32) : IVec S2x4096 1 × IVec S_ 1 × IVec S4096 1 :=
  let main_v0 : FVec F S128x4096 .f32 := mulf main_arg0 main_arg0
  let main_cst : FVec F S_ .f32 := constant S_ .f32 0x00000000#32
  let main_v1 : FVec F S4096 .f32 := (fun x v => Host.reduceAdd x v reducesTo_S128x4096_S4096_d0 h_S_) main_v0 main_cst
  let main_v2 : FVec F S1x4096 .f32 := broadcastInDim S1x4096 ![1] bcast_S4096_S1x4096_1 main_v1
  let main_v3 : FVec F S1x4096 .f32 := Host.sqrt main_v2
  let main_cst_0 : FVec F S_ .f32 := constant S_ .f32 0x2B8CBCCC#32
  let main_v4 : FVec F S1x4096 .f32 := broadcastInDim S1x4096 ![] bcast_S_S1x4096 main_cst_0
  let main_v5 : FVec F S1x4096 .f32 := maximumf main_v3 main_v4
  let main_v6 : FVec F S128x4096 .f32 := broadcastInDim S128x4096 ![0, 1] bcast_S1x4096_S128x4096_0_1 main_v5
  let main_v7 : FVec F S128x4096 .f32 := Host.divf main_arg0 main_v6
  let main_v8 : FVec F S128x4096 .f32 := mulf main_arg1 main_arg1
  let main_cst_1 : FVec F S_ .f32 := constant S_ .f32 0x00000000#32
  let main_v9 : FVec F S4096 .f32 := (fun x v => Host.reduceAdd x v reducesTo_S128x4096_S4096_d0 h_S_) main_v8 main_cst_1
  let main_v10 : FVec F S1x4096 .f32 := broadcastInDim S1x4096 ![1] bcast_S4096_S1x4096_1 main_v9
  let main_v11 : FVec F S1x4096 .f32 := Host.sqrt main_v10
  let main_cst_2 : FVec F S_ .f32 := constant S_ .f32 0x2B8CBCCC#32
  let main_v12 : FVec F S1x4096 .f32 := broadcastInDim S1x4096 ![] bcast_S_S1x4096 main_cst_2
  let main_v13 : FVec F S1x4096 .f32 := maximumf main_v11 main_v12
  let main_v14 : FVec F S128x4096 .f32 := broadcastInDim S128x4096 ![0, 1] bcast_S1x4096_S128x4096_0_1 main_v13
  let main_v15 : FVec F S128x4096 .f32 := Host.divf main_arg1 main_v14
  let main_v16 : FVec F S4096x128 .f32 := (transpose S4096x128 [1, 0] · transposes_S128x4096_S4096x128_1_0) main_v7
  let main_v17 : FVec F S4096x4096 .f32 := (fun l r => Host.dotGeneral dot_S4096x128_S128x4096_S4096x4096_1_0_0_1_n_n none l r) main_v16 main_v15
  let main_cst_3 : FVec F S_ .f32 := constant S_ .f32 0xBF800000#32
  let main_cst_4 : FVec F S_ .f32 := constant S_ .f32 0x3F800000#32
  fn_part1 (F := F) main_arg2 main_arg3 main_v17 main_cst_3 main_cst_4
-- ==== Pre_nearest_unique.lean ====
abbrev S128x4096 : Shape := ⟨2, ![128, 4096]⟩
abbrev S2x4096 : Shape := ⟨2, ![2, 4096]⟩
abbrev S_ : Shape := ⟨0, ![]⟩
abbrev S4096 : Shape := ⟨1, ![4096]⟩
abbrev S1x4096 : Shape := ⟨2, ![1, 4096]⟩
abbrev S4096x128 : Shape := ⟨2, ![4096, 128]⟩
abbrev S4096x4096 : Shape := ⟨2, ![4096, 4096]⟩
abbrev S4096x1 : Shape := ⟨2, ![4096, 1]⟩

class Facts : Prop where
  reducesTo_S128x4096_S4096_d0 : S128x4096.ReducesTo [0] S4096
  h_S_ : 0 < S_.numel
  bcast_S4096_S1x4096_1 : S4096.BroadcastsInDim S1x4096 (![1] : Fin 1 → Fin S1x4096.rank)
  bcast_S_S1x4096 : S_.BroadcastsInDim S1x4096 (![] : Fin 0 → Fin S1x4096.rank)
  bcast_S1x4096_S128x4096_0_1 : S1x4096.BroadcastsInDim S128x4096 (![0, 1] : Fin 2 → Fin S128x4096.rank)
  transposes_S128x4096_S4096x128_1_0 : S128x4096.Transposes [1, 0] S4096x128
  bcast_S_S4096x4096 : S_.BroadcastsInDim S4096x4096 (![] : Fin 0 → Fin S4096x4096.rank)
  reducesTo_S4096x4096_S4096_d1 : S4096x4096.ReducesTo [1] S4096
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S_S2x4096 : S_.BroadcastsInDim S2x4096 (![] : Fin 0 → Fin S2x4096.rank)
  bcast_S_S4096 : S_.BroadcastsInDim S4096 (![] : Fin 0 → Fin S4096.rank)
  dot_S4096x128_S128x4096_S4096x4096_1_0_0_1_n_n_wf : DotDims.WF S4096x128 S128x4096 S4096x4096 [1] [0] [0] [1] [] []

variable [Facts]

def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf
def fn_clip {F : FTy → Type} [FloatOps F] (arg0 : FVec F S4096x4096 .f32) (arg1 : FVec F S_ .f32) (arg2 : FVec F S_ .f32) : FVec F S4096x4096 .f32 :=
  let v0 : FVec F S_ .f32 := id arg1
  let v1 : FVec F S4096x4096 .f32 := broadcastInDim S4096x4096 ![] bcast_S_S4096x4096 v0
  let v2 : FVec F S4096x4096 .f32 := maximumf v1 arg0
  let v3 : FVec F S_ .f32 := id arg2
  let v4 : FVec F S4096x4096 .f32 := broadcastInDim S4096x4096 ![] bcast_S_S4096x4096 v3
  let v5 : FVec F S4096x4096 .f32 := minimumf v4 v2
  v5

def fn_where {F : FTy → Type} [FloatOps F] (arg0 : IVec S4096x4096 1) (arg1 : FVec F S_ .f32) (arg2 : FVec F S_ .f32) : FVec F S4096x4096 .f32 :=
  let v0 : FVec F S4096x4096 .f32 := broadcastInDim S4096x4096 ![] bcast_S_S4096x4096 arg1
  let v1 : FVec F S4096x4096 .f32 := broadcastInDim S4096x4096 ![] bcast_S_S4096x4096 arg2
  let v2 : FVec F S4096x4096 .f32 := select arg0 v0 v1
  v2

def fn_part2 {F : FTy → Type} [FloatOps F] (main_arg2 : IVec S2x4096 32) (main_v30 : FVec F S4096 .f32) (main_v32 : IVec S2x4096 1) (main_v33 : IVec S2x4096 32) : IVec S2x4096 1 × IVec S4096 1 :=
  let main_v34 : IVec S2x4096 1 := cmpi .slt main_arg2 main_v33
  let main_v35 : IVec S2x4096 1 := andi main_v32 main_v34
  let main_cst_12 : FVec F S_ .f32 := constant S_ .f32 0x3F800000#32
  let main_v36 : FVec F S4096 .f32 := broadcastInDim S4096 ![] bcast_S_S4096 main_cst_12
  let main_v37 : IVec S4096 1 := cmpf .oeq main_v30 main_v36
  (main_v35, main_v37)

def fn_part1 {F : FTy → Type} [FloatOps F] (main_arg2 : IVec S2x4096 32) (main_v17 : FVec F S4096x4096 .f32) (main_cst_3 : FVec F S_ .f32) (main_cst_4 : FVec F S_ .f32) : IVec S2x4096 1 × IVec S4096 1 :=
  let main_v18 : FVec F S4096x4096 .f32 := fn_clip (F := F) main_v17 main_cst_3 main_cst_4
  let main_cst_5 : FVec F S_ .f32 := constant S_ .f32 0x40000000#32
  let main_v19 : FVec F S4096x4096 .f32 := broadcastInDim S4096x4096 ![] bcast_S_S4096x4096 main_cst_5
  let main_v20 : FVec F S4096x4096 .f32 := mulf main_v19 main_v18
  let main_cst_6 : FVec F S_ .f32 := constant S_ .f32 0x40000000#32
  let main_v21 : FVec F S4096x4096 .f32 := broadcastInDim S4096x4096 ![] bcast_S_S4096x4096 main_cst_6
  let main_v22 : FVec F S4096x4096 .f32 := subf main_v21 main_v20
  let main_v23 : FVec F S4096x4096 .f32 := Host.sqrt main_v22
  let main_cst_7 : FVec F S_ .f32 := constant S_ .f32 0x7F800000#32
  let main_v24 : FVec F S4096 .f32 := (fun x v => Host.reduce FloatOps.minimumf x v reducesTo_S4096x4096_S4096_d1 h_S_) main_v23 main_cst_7
  let main_v25 : FVec F S4096x1 .f32 := broadcastInDim S4096x1 ![0] bcast_S4096_S4096x1_0 main_v24
  let main_v26 : FVec F S4096x4096 .f32 := broadcastInDim S4096x4096 ![0, 1] bcast_S4096x1_S4096x4096_0_1 main_v25
  let main_v27 : IVec S4096x4096 1 := cmpf .oeq main_v23 main_v26
  let main_cst_8 : FVec F S_ .f32 := constant S_ .f32 0x3F800000#32
  let main_cst_9 : FVec F S_ .f32 := constant S_ .f32 0x00000000#32
  let main_v28 : FVec F S4096x4096 .f32 := fn_where (F := F) main_v27 main_cst_8 main_cst_9
  let main_v29 : FVec F S4096x4096 .f32 := id main_v28
  let main_cst_10 : FVec F S_ .f32 := constant S_ .f32 0x00000000#32
  let main_v30 : FVec F S4096 .f32 := (fun x v => Host.reduceAdd x v reducesTo_S4096x4096_S4096_d1 h_S_) main_v29 main_cst_10
  let main_c : IVec S_ 32 := constantI S_ 32 0#32
  let main_v31 : IVec S2x4096 32 := broadcastInDim S2x4096 ![] bcast_S_S2x4096 main_c
  let main_v32 : IVec S2x4096 1 := cmpi .sge main_arg2 main_v31
  let main_c_11 : IVec S_ 32 := constantI S_ 32 512#32
  let main_v33 : IVec S2x4096 32 := broadcastInDim S2x4096 ![] bcast_S_S2x4096 main_c_11
  fn_part2 (F := F) main_arg2 main_v30 main_v32 main_v33

def fn {F : FTy → Type} [FloatOps F] (main_arg0 : FVec F S128x4096 .f32) (main_arg1 : FVec F S128x4096 .f32) (main_arg2 : IVec S2x4096 32) (main_arg3 : IVec S_ 32) : IVec S2x4096 1 × IVec S4096 1 :=
  let main_v0 : FVec F S128x4096 .f32 := mulf main_arg0 main_arg0
  let main_cst : FVec F S_ .f32 := constant S_ .f32 0x00000000#32
  let main_v1 : FVec F S4096 .f32 := (fun x v => Host.reduceAdd x v reducesTo_S128x4096_S4096_d0 h_S_) main_v0 main_cst
  let main_v2 : FVec F S1x4096 .f32 := broadcastInDim S1x4096 ![1] bcast_S4096_S1x4096_1 main_v1
  let main_v3 : FVec F S1x4096 .f32 := Host.sqrt main_v2
  let main_cst_0 : FVec F S_ .f32 := constant S_ .f32 0x2B8CBCCC#32
  let main_v4 : FVec F S1x4096 .f32 := broadcastInDim S1x4096 ![] bcast_S_S1x4096 main_cst_0
  let main_v5 : FVec F S1x4096 .f32 := maximumf main_v3 main_v4
  let main_v6 : FVec F S128x4096 .f32 := broadcastInDim S128x4096 ![0, 1] bcast_S1x4096_S128x4096_0_1 main_v5
  let main_v7 : FVec F S128x4096 .f32 := Host.divf main_arg0 main_v6
  let main_v8 : FVec F S128x4096 .f32 := mulf main_arg1 main_arg1
  let main_cst_1 : FVec F S_ .f32 := constant S_ .f32 0x00000000#32
  let main_v9 : FVec F S4096 .f32 := (fun x v => Host.reduceAdd x v reducesTo_S128x4096_S4096_d0 h_S_) main_v8 main_cst_1
  let main_v10 : FVec F S1x4096 .f32 := broadcastInDim S1x4096 ![1] bcast_S4096_S1x4096_1 main_v9
  let main_v11 : FVec F S1x4096 .f32 := Host.sqrt main_v10
  let main_cst_2 : FVec F S_ .f32 := constant S_ .f32 0x2B8CBCCC#32
  let main_v12 : FVec F S1x4096 .f32 := broadcastInDim S1x4096 ![] bcast_S_S1x4096 main_cst_2
  let main_v13 : FVec F S1x4096 .f32 := maximumf main_v11 main_v12
  let main_v14 : FVec F S128x4096 .f32 := broadcastInDim S128x4096 ![0, 1] bcast_S1x4096_S128x4096_0_1 main_v13
  let main_v15 : FVec F S128x4096 .f32 := Host.divf main_arg1 main_v14
  let main_v16 : FVec F S4096x128 .f32 := (transpose S4096x128 [1, 0] · transposes_S128x4096_S4096x128_1_0) main_v7
  let main_v17 : FVec F S4096x4096 .f32 := (fun l r => Host.dotGeneral dot_S4096x128_S128x4096_S4096x4096_1_0_0_1_n_n none l r) main_v16 main_v15
  let main_cst_3 : FVec F S_ .f32 := constant S_ .f32 0xBF800000#32
  let main_cst_4 : FVec F S_ .f32 := constant S_ .f32 0x3F800000#32
  fn_part1 (F := F) main_arg2 main_v17 main_cst_3 main_cst_4
-- ==== Kernel.lean ====
abbrev S128x4096 : Shape := ⟨2, ![128, 4096]⟩
abbrev S2x4096 : Shape := ⟨2, ![2, 4096]⟩
abbrev S_ : Shape := ⟨0, ![]⟩
abbrev S4096x128 : Shape := ⟨2, ![4096, 128]⟩
abbrev S4096x2 : Shape := ⟨2, ![4096, 2]⟩
abbrev S1x1 : Shape := ⟨2, ![1, 1]⟩
abbrev S4096x1 : Shape := ⟨2, ![4096, 1]⟩
abbrev S1024x128 : Shape := ⟨2, ![1024, 128]⟩
abbrev S1024x2 : Shape := ⟨2, ![1024, 2]⟩
abbrev S1024x1 : Shape := ⟨2, ![1024, 1]⟩
abbrev S1x4096 : Shape := ⟨2, ![1, 4096]⟩
abbrev S4096 : Shape := ⟨1, ![4096]⟩
abbrev S1024 : Shape := ⟨1, ![1024]⟩
abbrev S1024x4096 : Shape := ⟨2, ![1024, 4096]⟩
abbrev S1x1024x1 : Shape := ⟨3, ![1, 1024, 1]⟩
abbrev S1 : Shape := ⟨1, ![1]⟩
abbrev S1x1x1 : Shape := ⟨3, ![1, 1, 1]⟩

abbrev nBuf : Space → Nat
  | .hbm => 11
  | .vmem => 14
  | .smem => 1
  | _ => 0

abbrev bufTy : (tb : Table) → Fin (tcTables nBuf tb) → BufTy
  | .hbm, ⟨0, _⟩ => ⟨S128x4096, .f32⟩
  | .hbm, ⟨1, _⟩ => ⟨S128x4096, .f32⟩
  | .hbm, ⟨2, _⟩ => ⟨S2x4096, .i32⟩
  | .hbm, ⟨3, _⟩ => ⟨S_, .i32⟩
  | .hbm, ⟨4, _⟩ => ⟨S4096x128, .f32⟩
  | .hbm, ⟨5, _⟩ => ⟨S4096x128, .f32⟩
  | .hbm, ⟨6, _⟩ => ⟨S4096x2, .i32⟩
  | .hbm, ⟨7, _⟩ => ⟨S1x1, .i32⟩
  | .hbm, ⟨8, _⟩ => ⟨S4096x1, .f32⟩
  | .hbm, ⟨9, _⟩ => ⟨S1x1, .f32⟩
  | .hbm, ⟨10, _⟩ => ⟨S1x1, .f32⟩
  | .local _ .vmem, ⟨0, _⟩ => ⟨S1024x128, .f32⟩
  | .local _ .vmem, ⟨1, _⟩ => ⟨S1024x128, .f32⟩
  | .local _ .vmem, ⟨2, _⟩ => ⟨S128x4096, .f32⟩
  | .local _ .vmem, ⟨3, _⟩ => ⟨S1024x128, .f32⟩
  | .local _ .vmem, ⟨4, _⟩ => ⟨S1024x128, .f32⟩
  | .local _ .vmem, ⟨5, _⟩ => ⟨S1024x2, .i32⟩
  | .local _ .vmem, ⟨6, _⟩ => ⟨S1024x2, .i32⟩
  | .local _ .vmem, ⟨7, _⟩ => ⟨S2x4096, .i32⟩
  | .local _ .vmem, ⟨8, _⟩ => ⟨S1024x1, .f32⟩
  | .local _ .vmem, ⟨9, _⟩ => ⟨S1024x1, .f32⟩
  | .local _ .vmem, ⟨10, _⟩ => ⟨S1x1, .f32⟩
  | .local _ .vmem, ⟨11, _⟩ => ⟨S1x1, .f32⟩
  | .local _ .vmem, ⟨12, _⟩ => ⟨S128x4096, .f32⟩
  | .local _ .vmem, ⟨13, _⟩ => ⟨S1x4096, .f32⟩
  | .local _ .smem, ⟨0, _⟩ => ⟨S1x1, .i32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x2 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x4096 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelIdeal.lean ====
variable {F : FTy → Type} [FloatOps F] [Named F]
def κ : String → Option EReal := fun
  | "c_eps_eps" => some ((77371252064649 / 604462909807314587353088 : ℝ) : EReal)
  | _ => none
-- ==== ReferenceIdeal.lean ====
abbrev S128x4096 : Shape := ⟨2, ![128, 4096]⟩
abbrev S2x4096 : Shape := ⟨2, ![2, 4096]⟩
abbrev S_ : Shape := ⟨0, ![]⟩
abbrev S4096 : Shape := ⟨1, ![4096]⟩
abbrev S1x4096 : Shape := ⟨2, ![1, 4096]⟩
abbrev S4096x128 : Shape := ⟨2, ![4096, 128]⟩
abbrev S4096x4096 : Shape := ⟨2, ![4096, 4096]⟩
abbrev S4096x4096x1 : Shape := ⟨3, ![4096, 4096, 1]⟩
abbrev S4096x1 : Shape := ⟨2, ![4096, 1]⟩
abbrev S4096x2 : Shape := ⟨2, ![4096, 2]⟩
abbrev S1x1 : Shape := ⟨2, ![1, 1]⟩

abbrev nBuf : Space → Nat
  | .hbm => 182
  | .vmem => 0
  | .smem => 0
  | _ => 0

abbrev hbmTy0_0 (i : Nat) : BufTy := match i % 128 with
  | 0 => ⟨S128x4096, .f32⟩
  | 1 => ⟨S128x4096, .f32⟩
  | 2 => ⟨S2x4096, .i32⟩
  | 3 => ⟨S_, .i32⟩
  | 4 => ⟨S128x4096, .f32⟩
  | 5 => ⟨S_, .f32⟩
  | 6 => ⟨S4096, .f32⟩
  | 7 => ⟨S1x4096, .f32⟩
  | 8 => ⟨S1x4096, .f32⟩
  | 9 => ⟨S_, .f32⟩
  | 10 => ⟨S1x4096, .f32⟩
  | 11 => ⟨S1x4096, .f32⟩
  | 12 => ⟨S128x4096, .f32⟩
  | 13 => ⟨S128x4096, .f32⟩
  | 14 => ⟨S128x4096, .f32⟩
  | 15 => ⟨S_, .f32⟩
  | 16 => ⟨S4096, .f32⟩
  | 17 => ⟨S1x4096, .f32⟩
  | 18 => ⟨S1x4096, .f32⟩
  | 19 => ⟨S_, .f32⟩
  | 20 => ⟨S1x4096, .f32⟩
  | 21 => ⟨S1x4096, .f32⟩
  | 22 => ⟨S128x4096, .f32⟩
  | 23 => ⟨S128x4096, .f32⟩
  | 24 => ⟨S4096x128, .f32⟩
  | 25 => ⟨S4096x4096, .f32⟩
  | 26 => ⟨S_, .f32⟩
  | 27 => ⟨S_, .f32⟩
  | 28 => ⟨S_, .f32⟩
  | 29 => ⟨S4096x4096, .f32⟩
  | 30 => ⟨S4096x4096, .f32⟩
  | 31 => ⟨S_, .f32⟩
  | 32 => ⟨S4096x4096, .f32⟩
  | 33 => ⟨S4096x4096, .f32⟩
  | 34 => ⟨S_, .f32⟩
  | 35 => ⟨S4096x4096, .f32⟩
  | 36 => ⟨S4096x4096, .f32⟩
  | 37 => ⟨S_, .f32⟩
  | 38 => ⟨S4096x4096, .f32⟩
  | 39 => ⟨S4096x4096, .f32⟩
  | 40 => ⟨S4096x4096, .f32⟩
  | 41 => ⟨S4096x4096, .i32⟩
  | 42 => ⟨S4096x4096, .f32⟩
  | 43 => ⟨S4096x4096, .i32⟩
  | 44 => ⟨S4096x4096, .f32⟩
  | 45 => ⟨S4096x4096, .i32⟩
  | 46 => ⟨S1x4096, .i32⟩
  | 47 => ⟨S4096, .i32⟩
  | 48 => ⟨S_, .i32⟩
  | 49 => ⟨S4096x4096, .i32⟩
  | 50 => ⟨S4096x4096, .i1⟩
  | 51 => ⟨S_, .i32⟩
  | 52 => ⟨S4096x4096, .i32⟩
  | 53 => ⟨S4096x4096, .i32⟩
  | 54 => ⟨S4096x4096, .i32⟩
  | 55 => ⟨S4096x4096x1, .i32⟩
  | 56 => ⟨S4096x4096, .i32⟩
  | 57 => ⟨S1x4096, .i32⟩
  | 58 => ⟨S4096, .i32⟩
  | 59 => ⟨S_, .i32⟩
  | 60 => ⟨S4096x4096, .i32⟩
  | 61 => ⟨S4096x4096, .i1⟩
  | 62 => ⟨S_, .i32⟩
  | 63 => ⟨S4096x4096, .i32⟩
  | 64 => ⟨S4096x4096, .i32⟩
  | 65 => ⟨S4096x4096, .i32⟩
  | 66 => ⟨S4096x4096x1, .i32⟩
  | 67 => ⟨S4096x4096, .i32⟩
  | 68 => ⟨S1x4096, .i32⟩
  | 69 => ⟨S4096, .i32⟩
  | 70 => ⟨S1x4096, .i32⟩
  | 71 => ⟨S4096, .i32⟩
  | 72 => ⟨S1x4096, .i32⟩
  | 73 => ⟨S4096, .i32⟩
  | 74 => ⟨S4096, .i32⟩
  | 75 => ⟨S4096, .i32⟩
  | 76 => ⟨S_, .i32⟩
  | 77 => ⟨S4096, .i32⟩
  | 78 => ⟨S4096, .i1⟩
  | 79 => ⟨S1x4096, .i32⟩
  | 80 => ⟨S4096, .i32⟩
  | 81 => ⟨S4096, .i32⟩
  | 82 => ⟨S4096, .i32⟩
  | 83 => ⟨S_, .i32⟩
  | 84 => ⟨S4096, .i32⟩
  | 85 => ⟨S4096, .i1⟩
  | 86 => ⟨S4096, .i1⟩
  | 87 => ⟨S4096, .f32⟩
  | 88 => ⟨S_, .f32⟩
  | 89 => ⟨S_, .f32⟩
  | 90 => ⟨S_, .f32⟩
  | 91 => ⟨S_, .f32⟩
  | 92 => ⟨S1x4096, .i32⟩
  | 93 => ⟨S4096x4096, .i32⟩
  | 94 => ⟨S4096x4096, .i32⟩
  | 95 => ⟨S4096x4096, .i32⟩
  | 96 => ⟨S4096x4096, .i32⟩
  | 97 => ⟨S4096x4096, .i1⟩
  | 98 => ⟨S1x4096, .i32⟩
  | 99 => ⟨S4096x4096, .i32⟩
  | 100 => ⟨S4096x4096, .i32⟩
  | 101 => ⟨S4096x4096, .i32⟩
  | 102 => ⟨S4096x4096, .i32⟩
  | 103 => ⟨S4096x4096, .i1⟩
  | 104 => ⟨S4096x4096, .i1⟩
  | 105 => ⟨S4096x4096, .f32⟩
  | 106 => ⟨S_, .f32⟩
  | 107 => ⟨S4096x4096, .f32⟩
  | 108 => ⟨S4096x4096, .f32⟩
  | 109 => ⟨S_, .f32⟩
  | 110 => ⟨S4096, .f32⟩
  | 111 => ⟨S4096x4096, .i32⟩
  | 112 => ⟨S1x4096, .f32⟩
  | 113 => ⟨S4096x4096, .f32⟩
  | 114 => ⟨S4096x4096, .i1⟩
  | 115 => ⟨S_, .i32⟩
  | 116 => ⟨S_, .i32⟩
  | 117 => ⟨S4096x4096, .i32⟩
  | 118 => ⟨S4096x4096, .i32⟩
  | 119 => ⟨S_, .i32⟩
  | 120 => ⟨S4096, .i32⟩
  | 121 => ⟨S4096, .i32⟩
  | 122 => ⟨S_, .i32⟩
  | 123 => ⟨S4096, .i32⟩
  | 124 => ⟨S4096, .i1⟩
  | 125 => ⟨S_, .i32⟩
  | 126 => ⟨S4096, .i32⟩
  | 127 => ⟨S4096, .i32⟩
  | _ => ⟨S128x4096, .f32⟩

abbrev hbmTy0_1 (i : Nat) : BufTy := match i % 128 with
  | 0 => ⟨S4096, .i32⟩
  | 1 => ⟨S_, .i32⟩
  | 2 => ⟨S4096, .i32⟩
  | 3 => ⟨S4096, .i1⟩
  | 4 => ⟨S_, .i32⟩
  | 5 => ⟨S4096, .i32⟩
  | 6 => ⟨S4096, .i32⟩
  | 7 => ⟨S4096, .i32⟩
  | 8 => ⟨S4096x1, .i32⟩
  | 9 => ⟨S4096x1, .i32⟩
  | 10 => ⟨S4096x2, .i32⟩
  | 11 => ⟨S4096, .i32⟩
  | 12 => ⟨S4096x128, .f32⟩
  | 13 => ⟨S4096x128, .f32⟩
  | 14 => ⟨S_, .i32⟩
  | 15 => ⟨S4096, .i32⟩
  | 16 => ⟨S4096, .i1⟩
  | 17 => ⟨S_, .i32⟩
  | 18 => ⟨S4096, .i32⟩
  | 19 => ⟨S4096, .i32⟩
  | 20 => ⟨S4096, .i32⟩
  | 21 => ⟨S4096x1, .i32⟩
  | 22 => ⟨S128x4096, .f32⟩
  | 23 => ⟨S4096x128, .f32⟩
  | 24 => ⟨S4096x128, .f32⟩
  | 25 => ⟨S_, .f32⟩
  | 26 => ⟨S4096x128, .f32⟩
  | 27 => ⟨S4096x128, .f32⟩
  | 28 => ⟨S4096x128, .f32⟩
  | 29 => ⟨S_, .f32⟩
  | 30 => ⟨S4096, .f32⟩
  | 31 => ⟨S4096, .f32⟩
  | 32 => ⟨S4096x128, .f32⟩
  | 33 => ⟨S_, .f32⟩
  | 34 => ⟨S4096x128, .f32⟩
  | 35 => ⟨S4096x128, .f32⟩
  | 36 => ⟨S4096x128, .f32⟩
  | 37 => ⟨S_, .f32⟩
  | 38 => ⟨S4096, .f32⟩
  | 39 => ⟨S4096, .f32⟩
  | 40 => ⟨S4096, .f32⟩
  | 41 => ⟨S_, .f32⟩
  | 42 => ⟨S4096, .f32⟩
  | 43 => ⟨S4096, .f32⟩
  | 44 => ⟨S_, .f32⟩
  | 45 => ⟨S4096, .f32⟩
  | 46 => ⟨S4096, .f32⟩
  | 47 => ⟨S_, .f32⟩
  | 48 => ⟨S_, .f32⟩
  | 49 => ⟨S_, .f32⟩
  | 50 => ⟨S_, .f32⟩
  | 51 => ⟨S1x1, .f32⟩
  | 52 => ⟨S1x1, .f32⟩
  | 53 => ⟨S4096x1, .f32⟩
  | _ => ⟨S128x4096, .f32⟩

abbrev hbmTy (i : Nat) : BufTy := match i / 128 with
  | 0 => hbmTy0_0 i
  | 1 => hbmTy0_1 i
  | _ => ⟨S128x4096, .f32⟩

abbrev bufTy : (tb : Table) → Fin (tcTables nBuf tb) → BufTy
  | .hbm, ⟨i, _⟩ => hbmTy i
  | _, _ => ⟨S128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_call1_v0 : Ref sig .tc := ⟨.hbm, 41, rfl⟩
abbrev main_call1_v1_0 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c : Ref sig .tc := ⟨.hbm, 48, rfl⟩
abbrev main_v29 : Ref sig .tc := ⟨.hbm, 49, rfl⟩
abbrev main_v30 : Ref sig .tc := ⟨.hbm, 50, rfl⟩
abbrev main_c_7 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_8 : Ref sig .tc := ⟨.hbm, 59, rfl⟩
abbrev main_v38 : Ref sig .tc := ⟨.hbm, 60, rfl⟩
abbrev main_v39 : Ref sig .tc := ⟨.hbm, 61, rfl⟩
abbrev main_c_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_12 : Ref sig .tc := ⟨.hbm, 88, rfl⟩
abbrev main_v63 : Ref sig .tc := ⟨.hbm, 89, rfl⟩
abbrev main_cst_13 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_14 : Ref sig .tc := ⟨.hbm, 106, rfl⟩
abbrev main_call3_v0 : Ref sig .tc := ⟨.hbm, 107, rfl⟩
abbrev main_v79 : Ref sig .tc := ⟨.hbm, 108, rfl⟩
abbrev main_cst_15 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_c_16 : Ref sig .tc := ⟨.hbm, 115, rfl⟩
abbrev main_call4_v0 : Ref sig .tc := ⟨.hbm, 116, rfl⟩
abbrev main_call4_v1 : Ref sig .tc := ⟨.hbm, 117, rfl⟩
abbrev main_v85 : Ref sig .tc := ⟨.hbm, 118, rfl⟩
abbrev main_c_17 : Ref sig .tc := ⟨.hbm, 119, rfl⟩
abbrev main_v86 : Ref sig .tc := ⟨.hbm, 120, rfl⟩
abbrev main_v87 : Ref sig .tc := ⟨.hbm, 121, rfl⟩
abbrev main_c_18 : Ref sig .tc := ⟨.hbm, 122, rfl⟩
abbrev main_v88 : Ref sig .tc := ⟨.hbm, 123, rfl⟩
abbrev main_v89 : Ref sig .tc := ⟨.hbm, 124, rfl⟩
abbrev main_c_19 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_c_20 : Ref sig .tc := ⟨.hbm, 129, rfl⟩
abbrev main_v93 : Ref sig .tc := ⟨.hbm, 130, rfl⟩
abbrev main_v94 : Ref sig .tc := ⟨.hbm, 131, rfl⟩
abbrev main_c_21 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_c_22 : Ref sig .tc := ⟨.hbm, 142, rfl⟩
abbrev main_v104 : Ref sig .tc := ⟨.hbm, 143, rfl⟩
abbrev main_v105 : Ref sig .tc := ⟨.hbm, 144, rfl⟩
abbrev main_c_23 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_cst_24 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_cst_25 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_cst_26 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_cst_27 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_cst_28 : Ref sig .tc := ⟨.hbm, 169, rfl⟩
abbrev main_v125 : Ref sig .tc := ⟨.hbm, 170, rfl⟩
abbrev main_v126 : Ref sig .tc := ⟨.hbm, 171, rfl⟩
abbrev main_cst_29 : Ref sig .tc := ⟨.hbm, 172, rfl⟩
abbrev main_v127 : Ref sig .tc := ⟨.hbm, 173, rfl⟩
abbrev main_v128 : Ref sig .tc := ⟨.hbm, 174, rfl⟩
abbrev main_cst_30 : Ref sig .tc := ⟨.hbm, 175, rfl⟩
abbrev main_v129 : Ref sig .tc := ⟨.hbm, 176, rfl⟩
abbrev main_cst_31 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩

abbrev nD : Nat := 1
abbrev τ : Topo := Topo.v7x

variable {F : FTy → Type} [FloatOps F]
-- ==== Proof.Unit.lean ====
/- A column of 128 extended reals divided by its norm, the norm bounded below by a small positive constant: always real
   numbers, of squares summing to at most one, so that the inner product of two such columns lies in [-1, 1]. -/
module

public import Idealize.ShloMosaic.PureOps.Ideal
public import Idealize.ShloMosaic.PureOps.Ideal.Laws

@[expose] public section

noncomputable section

namespace Cert.Mine

open Idealize.ShloMosaic

/-- A finite sum of real numbers is the same sum in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The norm of a column. -/
def nrm (v : Fin 128 → EReal) : EReal := Ideal.sqrt (∑ c, v c * v c)

/-- The lower bound that a norm is replaced by when it is smaller. -/
def tiny : EReal := Ideal.ofBits .f32 0x2B8CBCCC#32

/-- The column divided by its norm. -/
def unit (v : Fin 128 → EReal) (c : Fin 128) : EReal := Ideal.div (v c) (max (nrm v) tiny)

/-- The norm divided as the column's elements are. -/
def rel (v : Fin 128 → EReal) : EReal := Ideal.div (nrm v) (max (nrm v) tiny)

/-- The inner product of two normalised columns. -/
def gram (a b : Fin 128 → EReal) : EReal := ∑ c, unit a c * unit b c

/-- The lower bound is a positive real number. -/
theorem tiny_real : ∃ e : ℝ, 0 < e ∧ tiny = (e : EReal) := by
  refine ⟨9223372 * (2 : ℝ) ^ (-63 : ℤ), by positivity, ?_⟩
  unfold tiny
  simp [Ideal.ofBits, Ideal.ieee, -EReal.coe_mul]

/-- A sum of squares in the extended reals is not the least element, and it is the greatest if one of the squares is. -/
theorem sum_sq_top (v : Fin 128 → EReal) (c : Fin 128) (h : v c = ⊤ ∨ v c = ⊥) : ∑ c, v c * v c = ⊤ := by
  have hc : v c * v c = ⊤ := by rcases h with h | h <;> rw [h] <;> simp
  have hn : ∀ c, 0 ≤ v c * v c := fun c => by
    induction v c with
    | bot => simp
    | top => simp
    | coe r => exact_mod_cast mul_self_nonneg r
  exact top_le_iff.mp (hc ▸ Finset.single_le_sum (f := fun c => v c * v c) (fun c _ => hn c) (Finset.mem_univ c))

/-- The square root of a real number that is not negative. -/
theorem sqrt_coe (r : ℝ) (h : 0 ≤ r) : Ideal.sqrt (r : EReal) = (Real.sqrt r : EReal) := by
  show (if r < 0 then ⊥ else (Real.sqrt r : EReal)) = _
  rw [if_neg (not_lt.mpr h)]

/-- The quotient of two real numbers, the second positive. -/
theorem div_coe (x y : ℝ) (h : 0 < y) : Ideal.div (x : EReal) (y : EReal) = ((x / y : ℝ) : EReal) := by
  unfold Ideal.div
  rw [if_neg (by exact_mod_cast h.ne'), ← EReal.coe_inv, ← EReal.coe_mul, div_eq_mul_inv]

/-- A quotient by plus infinity is zero. -/
theorem div_top (x : EReal) : Ideal.div x ⊤ = 0 := by
  unfold Ideal.div
  rw [if_neg (by simp)]; simp

/-- A normalised column: real elements, of squares summing to at most one and to the square of the normalised norm. -/
theorem unit_exists (v : Fin 128 → EReal) : ∃ u : Fin 128 → ℝ, (∀ c, unit v c = (u c : EReal)) ∧
    ∑ c, u c * u c ≤ 1 ∧ rel v * rel v = ((∑ c, u c * u c : ℝ) : EReal) := by
  obtain ⟨e, he, hE⟩ := tiny_real
  by_cases hv : ∃ c, v c = ⊤ ∨ v c = ⊥
  · obtain ⟨c, hc⟩ := hv
    have hn : nrm v = ⊤ := by unfold nrm; rw [sum_sq_top v c hc]; rfl
    refine ⟨fun _ => 0, fun c => ?_, by simp, ?_⟩
    · unfold unit; rw [hn, top_sup_eq, div_top]; rfl
    · unfold rel; rw [hn, top_sup_eq, div_top]; simp
  · push Not at hv
    have hw : ∀ c, v c = ((v c).toReal : EReal) := fun c => (EReal.coe_toReal (hv c).1 (hv c).2).symm
    generalize hwd : (fun c => (v c).toReal) = w
    have hw' : ∀ c, v c = (w c : EReal) := fun c => by rw [hw c, ← hwd]
    have hS : 0 ≤ ∑ c, w c * w c := Finset.sum_nonneg fun c _ => mul_self_nonneg _
    have hn : nrm v = (Real.sqrt (∑ c, w c * w c) : EReal) := by
      unfold nrm
      rw [← sqrt_coe _ hS, coe_sum]
      exact congrArg _ (Finset.sum_congr rfl fun c _ => by rw [hw' c, EReal.coe_mul])
    set n := Real.sqrt (∑ c, w c * w c) with hnd
    have hnn : n * n = ∑ c, w c * w c := Real.mul_self_sqrt hS
    have hn0 : 0 ≤ n := Real.sqrt_nonneg _
    have hm : max (nrm v) tiny = ((max n e : ℝ) : EReal) := by rw [hn, hE]; exact (EReal.coe_strictMono.monotone.map_max).symm
    have hp : 0 < max n e := lt_max_of_lt_right he
    have hsum : ∑ c, w c / max n e * (w c / max n e) = (n / max n e) * (n / max n e) := by
      rw [div_mul_div_comm, hnn, Finset.sum_div]
      exact Finset.sum_congr rfl fun c _ => div_mul_div_comm _ _ _ _
    have h1 : n / max n e ≤ 1 := (div_le_one hp).mpr (le_max_left _ _)
    refine ⟨fun c => w c / max n e, fun c => ?_, ?_, ?_⟩
    · unfold unit; rw [hm, hw' c, div_coe _ _ hp]
    · rw [hsum]; exact mul_le_one₀ h1 (div_nonneg hn0 hp.le) h1
    · unfold rel; rw [hsum, hm, hn, div_coe _ _ hp, EReal.coe_mul]

/-- A normalised column as real numbers. -/
def ur (v : Fin 128 → EReal) (c : Fin 128) : ℝ := (unit v c).toReal

theorem unit_eq (v : Fin 128 → EReal) (c : Fin 128) : unit v c = (ur v c : EReal) := by
  obtain ⟨u, hu, -⟩ := unit_exists v
  unfold ur; rw [hu c, EReal.toReal_coe]

/-- The squares of a normalised column sum to at most one. -/
theorem ur_sq_le (v : Fin 128 → EReal) : ∑ c, ur v c * ur v c ≤ 1 := by
  obtain ⟨u, hu, h, -⟩ := unit_exists v
  have : ur v = u := funext fun c => by unfold ur; rw [hu c, EReal.toReal_coe]
  rw [this]; exact h

/-- The square of the normalised norm is the sum of the squares of the normalised column. -/
theorem rel_sq (v : Fin 128 → EReal) : rel v * rel v = ((∑ c, ur v c * ur v c : ℝ) : EReal) := by
  obtain ⟨u, hu, -, h⟩ := unit_exists v
  have : ur v = u := funext fun c => by unfold ur; rw [hu c, EReal.toReal_coe]
  rw [this]; exact h

/-- The inner product of two normalised columns as a real number. -/
def gr (a b : Fin 128 → EReal) : ℝ := ∑ c, ur a c * ur b c

theorem gram_eq (a b : Fin 128 → EReal) : gram a b = (gr a b : EReal) := by
  unfold gram gr
  rw [coe_sum]
  exact Finset.sum_congr rfl fun c _ => by rw [unit_eq, unit_eq, EReal.coe_mul]

/-- It lies between minus one and one. -/
theorem gr_mem (a b : Fin 128 → EReal) : -1 ≤ gr a b ∧ gr a b ≤ 1 := by
  have h := Finset.sum_mul_sq_le_sq_mul_sq Finset.univ (ur a) (ur b)
  have ha := ur_sq_le a
  have hb := ur_sq_le b
  have hb0 : 0 ≤ ∑ c, ur b c * ur b c := Finset.sum_nonneg fun c _ => mul_self_nonneg _
  simp only [pow_two] at h
  have h2 : gr a b * gr a b ≤ 1 := h.trans (mul_le_one₀ ha hb0 hb)
  constructor <;> nlinarith

end Cert.Mine

end
-- ==== Proof.Pay.lean ====
/- The kernel's expressions, read at one index: each as a function of the scalars it uses. -/
module

public import proofs.«01_k».proof.Proof.Gen.KernelIdeal.Skeleton
public import proofs.«01_k».proof.Proof.Unit
public import Idealize.ShloMosaic.Lib.Pointwise

@[expose] public section

set_option maxRecDepth 16384

noncomputable section

namespace Cert.Mine

open Idealize.ShloMosaic Idealize.ShloMosaic.TcCoe Idealize.SL.Sem Cert.KernelIdeal Cert.KernelIdeal.Gen

/-- The maximum over the 4096 columns. -/
def big (f : Fin 4096 → EReal) : EReal := Finset.univ.fold max (Ideal.ofBits .f32 0xFF800000#32) f

/-- A point as one number. -/
def pk (x y : BitVec 32) : EReal := FloatOps.sitofp (F := Ideal) .f32 (IntOp.addi (IntOp.muli x 512#32) y)

/-- Whether two coordinates are within the relaxation of one another, by one unsigned comparison. -/
def near (rf a b : BitVec 32) : BitVec 1 := IntOp.cmpi .ule (IntOp.subi b (IntOp.subi a rf)) (Scalar.muli 2#32 rf)

/-- The similarity `g`, or -1 when the two points are within the relaxation of one another. -/
def mc (rf xi yi xj yj : BitVec 32) (g : EReal) : EReal :=
  Scalar.select (IntOp.andi (near rf xi xj) (near rf yi yj)) (Ideal.ofBits .f32 0xBF800000#32) g

/-- The small constant added to a difference. -/
def eps : EReal := Ideal.ofBits .f32 0x358637BD#32

/-- The kernel's distance of two normalised columns, the small constant added to the difference. -/
def dap (s t : Fin 128 → EReal) : EReal :=
  Ideal.sqrt (∑ c, (unit s c - unit t c + eps) * (unit s c - unit t c + eps))

/-- What the kernel's negative distance has from the source column alone. -/
def base (s : Fin 128 → EReal) : EReal :=
  rel s * rel s + Ideal.ofBits .f32 0x360637BD#32 * (∑ c, unit s c)
    + Named.named (F := Ideal) (φ := .f32) Cert.KernelIdeal.κ "c_eps_eps" 0x2F0CBCCC#32

/-- The kernel's negative distance, from the source column, the two maxima and the selected column's constant. -/
def dan (s : Fin 128 → EReal) (m0 m w : EReal) : EReal :=
  Ideal.sqrt (max (if m = Ideal.ofBits .f32 0xBF800000#32 then base s + 1 - Ideal.ofBits .f32 0x40000000#32 * m0
    else base s + w - Ideal.ofBits .f32 0x40000000#32 * m) 0)

/-- What the second scratch buffer holds of a target column. -/
def wt (t : Fin 128 → EReal) : EReal :=
  (∑ c, unit t c * unit t c) - Ideal.ofBits .f32 0x360637BD#32 * ∑ c, unit t c

/-- The row maxima of a block, kept as a column. -/
def rowMax (v : FVec Ideal S1024x4096 .f32) : FVec Ideal S1024x1 .f32 :=
  shapeCast S1024x1 (multiReduction .maximumf [1] S1024 v 0xFF800000#32 reduces_S1024x4096_S1024 (.inl rfl) rfl) shapeCasts_S1024_S1024x1

theorem rowMax_at (v : FVec Ideal S1024x4096 .f32) (r : Fin 1024) (l : Fin 1) :
    rowMax v (ix2 r l) = big fun j => v (ix2 r j) := by
  pointwise [rowMax, big]

theorem pay9_at (v : Vec Ideal S1024x128 .f32) (r : Fin 1024) (l : Fin 1) :
    k0_pay9 v (ix2 r l) = nrm (fun c => v (ix2 r c)) := by
  pointwise [k0_pay9, k0_pay8, nrm]

theorem pay10_at (v : Vec Ideal S1024x128 .f32) (r : Fin 1024) (l : Fin 128) :
    k0_pay10 v (ix2 r l) = unit (fun c => v (ix2 r c)) l := by
  pointwise [k0_pay10, k0_pay9, k0_pay8, unit, nrm, tiny]

theorem pay11_at (v : Vec Ideal S1024x128 .f32) (w : Vec Ideal S128x4096 .f32) (r : Fin 1024) (l : Fin 4096) :
    k0_pay11 v w (ix2 r l) = ∑ c, unit (fun c => v (ix2 r c)) c * w (ix2 c l) := by
  pointwise [k0_pay11]
  exact Finset.sum_congr rfl fun c _ => by rw [pay10_at]

theorem pay5_at (t : Vec Ideal S128x4096 .f32) (r : Fin 128) (l : Fin 4096) :
    k0_pay5 t (ix2 r l) = unit (fun c => t (ix2 c l)) r := by
  pointwise [k0_pay5, unit, nrm, tiny]

theorem pay6_at (t : Vec Ideal S128x4096 .f32) (r : Fin 128) (l : Fin 4096) :
    k0_pay6 t (ix2 r l) = unit (fun c => t (ix2 c l)) r := by
  pointwise [k0_pay6]
  exact pay5_at t r l

theorem pay7_at (t : Vec Ideal S128x4096 .f32) (r : Fin 1) (l : Fin 4096) :
    k0_pay7 t (ix2 r l) = wt (fun c => t (ix2 c l)) := by
  pointwise [k0_pay7]
  unfold wt
  simp only [pay5_at]

theorem pay14_at (x y : Vec Ideal S1024x1 .i32) (r : Fin 1024) (l : Fin 1) :
    k0_pay14 (F := Ideal) x y (ix2 r l) = pk (x (ix2 r l)) (y (ix2 r l)) := by
  pointwise [k0_pay14, k0_pay12, k0_pay13, pk]

theorem pay17_at (x y : Vec Ideal S1x4096 .i32) (r : Fin 1) (l : Fin 4096) :
    k0_pay17 (F := Ideal) x y (ix2 r l) = pk (x (ix2 r l)) (y (ix2 r l)) := by
  pointwise [k0_pay17, pk]

theorem pay15_at (v : Vec Ideal S1024x128 .f32) (w : Vec Ideal S128x4096 .f32) (r : Fin 1024) (l : Fin 1) :
    k0_pay15 v w (ix2 r l) = big (fun j => k0_pay11 v w (ix2 r j)) := by
  exact rowMax_at (k0_pay11 v w) r l

theorem pay16_at (v : Vec Ideal S1024x128 .f32) (w : Vec Ideal S128x4096 .f32) (r : Fin 1024) (l : Fin 4096) :
    k0_pay16 v w (ix2 r l) = BitVec.ofBool (decide (k0_pay11 v w (ix2 r l) = k0_pay15 v w (ix2 r 0))) := by
  pointwise [k0_pay16]

theorem pay19_at (v0 : BitVec 32) (v15 : FVec Ideal S1024x4096 .f32) (v17 v19 : IVec S1024x1 32)
    (v20 v21 : Vec Ideal S1x4096 .i32) (r : Fin 1024) (l : Fin 4096) :
    k0_pay19 (F := Ideal) v0 v15 v17 v19 v20 v21 (ix2 r l)
      = mc v0 (v17 (ix2 r 0)) (v19 (ix2 r 0)) (v20 (ix2 0 l)) (v21 (ix2 0 l)) (v15 (ix2 r l)) := by
  pointwise [k0_pay19, mc, near]

theorem pay20_at (v0 : BitVec 32) (v15 : FVec Ideal S1024x4096 .f32) (v17 v19 : IVec S1024x1 32)
    (v20 v21 : Vec Ideal S1x4096 .i32) (r : Fin 1024) (l : Fin 1) :
    k0_pay20 (F := Ideal) v0 v15 v17 v19 v20 v21 (ix2 r l)
      = big fun j => mc v0 (v17 (ix2 r 0)) (v19 (ix2 r 0)) (v20 (ix2 0 j)) (v21 (ix2 0 j)) (v15 (ix2 r j)) := by
  have h : k0_pay20 (F := Ideal) v0 v15 v17 v19 v20 v21 = rowMax (k0_pay19 (F := Ideal) v0 v15 v17 v19 v20 v21) := rfl
  rw [h, rowMax_at]
  exact congrArg big (funext fun j => pay19_at v0 v15 v17 v19 v20 v21 r j)

/-- The root of twice one minus a similarity, elementwise. -/
def rootOf (v : FVec Ideal S1024x1 .f32) : FVec Ideal S1024x1 .f32 :=
  sqrt (subf (broadcast S1024x1 (Scalar.ofBits .f32 0x40000000#32)) (mulf (broadcast S1024x1 (Scalar.ofBits .f32 0x40000000#32)) v))

theorem rootOf_at (v : FVec Ideal S1024x1 .f32) (r : Fin 1024) (l : Fin 1) :
    rootOf v (ix2 r l) = Ideal.sqrt (Ideal.ofBits .f32 0x40000000#32 - Ideal.ofBits .f32 0x40000000#32 * v (ix2 r l)) := by
  pointwise [rootOf]

theorem pay21_eq (v0 : BitVec 32) (v15 : FVec Ideal S1024x4096 .f32) (v17 v19 : IVec S1024x1 32)
    (v20 v21 : Vec Ideal S1x4096 .i32) :
    k0_pay21 (F := Ideal) v0 v15 v17 v19 v20 v21 = rootOf (k0_pay20 (F := Ideal) v0 v15 v17 v19 v20 v21) := rfl

theorem pay21_at (v0 : BitVec 32) (v15 : FVec Ideal S1024x4096 .f32) (v17 v19 : IVec S1024x1 32)
    (v20 v21 : Vec Ideal S1x4096 .i32) (r : Fin 1024) (l : Fin 1) :
    k0_pay21 (F := Ideal) v0 v15 v17 v19 v20 v21 (ix2 r l)
      = Ideal.sqrt (Ideal.ofBits .f32 0x40000000#32 - Ideal.ofBits .f32 0x40000000#32 * k0_pay20 (F := Ideal) v0 v15 v17 v19 v20 v21 (ix2 r l)) := by
  rw [pay21_eq, rootOf_at]

theorem pay22_at (v0 : BitVec 32) (v15 : FVec Ideal S1024x4096 .f32) (v17 v19 : IVec S1024x1 32)
    (v20 v21 : Vec Ideal S1x4096 .i32) (v76 : Vec Ideal S1x4096 .f32) (r : Fin 1024) (l : Fin 4096) :
    k0_pay22 (F := Ideal) v0 v15 v17 v19 v20 v21 v76 (ix2 r l)
      = if k0_pay19 (F := Ideal) v0 v15 v17 v19 v20 v21 (ix2 r l) = k0_pay20 (F := Ideal) v0 v15 v17 v19 v20 v21 (ix2 r 0)
        then v76 (ix2 0 l) else Ideal.ofBits .f32 0xF149F2CA#32 := by
  pointwise [k0_pay22]

theorem pay23_at (v4 v83 : Vec Ideal S1024x128 .f32) (r : Fin 1024) (l : Fin 1) :
    k0_pay23 (F := Ideal) (k0_pay10 v4) v83 (ix2 r l) = dap (fun c => v4 (ix2 r c)) (fun c => v83 (ix2 r c)) := by
  pointwise [k0_pay23]
  unfold dap
  simp only [pay10_at, unit, nrm, tiny, eps]

theorem pay24_at (v4 : Vec Ideal S1024x128 .f32) (v31 v67 : FVec Ideal S1024x1 .f32) (v80 : FVec Ideal S1024x4096 .f32)
    (r : Fin 1024) (l : Fin 1) :
    k0_pay24 (F := Ideal) (k0_pay9 v4) (k0_pay10 v4) v31 v67 v80 (ix2 r l)
      = dan (fun c => v4 (ix2 r c)) (v31 (ix2 r l)) (v67 (ix2 r l)) (big fun j => v80 (ix2 r j)) := by
  pointwise [k0_pay24]
  unfold dan base rel big
  simp only [pay10_at, pay9_at, tiny]

theorem pay3_at (v99 v125 : FVec Ideal S1024x1 .f32) (v139 : Vec Ideal S1x1 .f32) (r l : Fin 1) :
    k0_pay3 (F := Ideal) v99 v125 v139 (ix2 r l) = v139 (ix2 r l) + Ideal.div (∑ x : Fin 1024, ∑ _y : Fin 1,
      max (v99 (ix2 x 0) - v125 (ix2 x 0) + Ideal.ofBits .f32 0x3E4CCCCD#32) 0) (Ideal.ofBits .f32 0x45800000#32) := by
  pointwise [k0_pay3]

theorem pay4_at (v47 : FVec Ideal S1x1 .f32) (v145 : Vec Ideal S1x1 .f32) (r l : Fin 1) :
    k0_pay4 (F := Ideal) v47 v145 (ix2 r l) = v145 (ix2 r l) + Ideal.div (v47 (ix2 r l)) (Ideal.ofBits .f32 0x45800000#32) := by
  pointwise [k0_pay4]

/-- One where the two numbers are equal, zero elsewhere. -/
def hit (a b : EReal) : EReal := FloatOps.sitofp (F := Ideal) .f32 (BitVec.setWidth 32 (BitVec.ofBool (decide (a = b))))

/-- The greatest packed point over the selected columns. -/
def pkNN (v33 : IVec S1024x4096 1) (c : Ideal .f32) (v34 : FVec Ideal S1x4096 .f32) : FVec Ideal S1024x4096 .f32 :=
  select v33 (broadcastTo S1024x4096 v34 broadcasts_S1x4096_S1024x4096) (broadcast S1024x4096 c)

theorem pkNN_at (v33 : IVec S1024x4096 1) (c : Ideal .f32) (v34 : FVec Ideal S1x4096 .f32) (r : Fin 1024) (l : Fin 4096) :
    pkNN v33 c v34 (ix2 r l) = Scalar.select (v33 (ix2 r l)) (v34 (ix2 0 l)) c := by
  pointwise [pkNN]

/-- The sum, over a block's rows, of one where the two columns agree. -/
def hits (a b : FVec Ideal S1024x1 .f32) : FVec Ideal S1x1 .f32 :=
  broadcast S1x1 (extractAt ![0, 0, 0] (shapeCast S1x1x1 (multiReduction .add [1, 2] S1
    (shapeCast S1x1024x1 (sitofp (F := Ideal) .f32 (extui 32 (cmpf .oeq a b) natLt_1_32)) shapeCasts_S1024x1_S1x1024x1)
    0x00000000#32 reduces_S1x1024x1_S1 (.inl rfl) rfl) shapeCasts_S1_S1x1x1) inpos_S1x1x1_p0_0_0)

theorem hits_at (a b : FVec Ideal S1024x1 .f32) (r l : Fin 1) :
    hits a b (ix2 r l) = ∑ x : Fin 1024, ∑ _y : Fin 1, hit (a (ix2 x 0)) (b (ix2 x 0)) := by
  pointwise [hits, hit]

theorem pay18_eq (v29 : FVec Ideal S1024x1 .f32) (v33 : IVec S1024x4096 1) (c : Ideal .f32) (v34 : FVec Ideal S1x4096 .f32) :
    k0_pay18 v29 v33 c v34 = hits (rowMax (pkNN v33 c v34)) v29 := rfl

theorem pay18_at (v29 : FVec Ideal S1024x1 .f32) (v33 : IVec S1024x4096 1) (c : Ideal .f32) (v34 : FVec Ideal S1x4096 .f32)
    (r l : Fin 1) : k0_pay18 v29 v33 c v34 (ix2 r l) = ∑ x : Fin 1024, ∑ _y : Fin 1,
      hit (big fun j => Scalar.select (v33 (ix2 x j)) (v34 (ix2 0 j)) c) (v29 (ix2 x 0)) := by
  rw [pay18_eq, hits_at]
  simp only [rowMax_at, pkNN_at]

end Cert.Mine

end
-- ==== Proof.KernelBlock.lean ====
/- What a grid point leaves in each output's block and in the two scratch buffers, as functions of the blocks it reads:
   one case for the first point, which fills the scratch buffers and zeroes the two accumulators, one for the others. -/
module

public import proofs.«01_k».proof.Proof.Gen.KernelIdeal.Value
public import proofs.«01_k».proof.Proof.Pay

@[expose] public section

set_option maxRecDepth 16384

noncomputable section

namespace Cert.Mine

open Idealize.ShloMosaic Idealize.ShloMosaic.TcCoe Idealize.SL.Sem Cert.KernelIdeal Cert.KernelIdeal.Gen

/-- The similarities of a source column with the normalised target columns `T`. -/
def sims (s : Fin 128 → EReal) (T : Fin 128 → Fin 4096 → EReal) (j : Fin 4096) : EReal := ∑ c, unit s c * T c j

/-- The similarities with -1 in the place of the columns whose point is within the relaxation. -/
def masked (rf : BitVec 32) (p : Fin 2 → BitVec 32) (P : Fin 2 → Fin 4096 → BitVec 32) (g : Fin 4096 → EReal)
    (j : Fin 4096) : EReal := mc rf (p 0) (p 1) (P 0 j) (P 1 j) (g j)

theorem sims_eq (s : Fin 128 → EReal) (T : Fin 128 → Fin 4096 → EReal) : sims s T = fun j => ∑ c, unit s c * T c j := rfl

theorem masked_eq (rf : BitVec 32) (p : Fin 2 → BitVec 32) (P : Fin 2 → Fin 4096 → BitVec 32) (g : Fin 4096 → EReal) :
    masked rf p P g = fun j => mc rf (p 0) (p 1) (P 0 j) (P 1 j) (g j) := rfl

/-- The distance the kernel returns for a source column. -/
def distRow (rf : BitVec 32) (p : Fin 2 → BitVec 32) (P : Fin 2 → Fin 4096 → BitVec 32) (g : Fin 4096 → EReal) : EReal :=
  Ideal.sqrt (Ideal.ofBits .f32 0x40000000#32 - Ideal.ofBits .f32 0x40000000#32 * big (masked rf p P g))

/-- One where the kernel finds the nearest target column at the source column's point, zero elsewhere. -/
def recRow (p : Fin 2 → BitVec 32) (P : Fin 2 → Fin 4096 → BitVec 32) (g : Fin 4096 → EReal) : EReal :=
  hit (big fun j => Scalar.select (BitVec.ofBool (decide (g j = big g))) (pk (P 0 j) (P 1 j)) (Ideal.ofBits .f32 0xBF800000#32))
    (pk (p 0) (p 1))

/-- The term of the loss the kernel computes for a source column. -/
def lossRow (rf : BitVec 32) (p : Fin 2 → BitVec 32) (P : Fin 2 → Fin 4096 → BitVec 32) (s t : Fin 128 → EReal)
    (g w : Fin 4096 → EReal) : EReal :=
  max (dap s t - dan s (big g) (big (masked rf p P g))
      (big fun j => if masked rf p P g j = big (masked rf p P g) then w j else Ideal.ofBits .f32 0xF149F2CA#32)
    + Ideal.ofBits .f32 0x3E4CCCCD#32) 0

variable (c : Dev nD) (i : grid0.Coords)
  (a1 : Memref sig .tc .smem S1x1 .i32) (h1 : a1.IsWhole) (a2 : Memref sig .tc .vmem S1024x128 .f32) (h2 : a2.IsWhole)
  (a3 : Memref sig .tc .vmem S128x4096 .f32) (h3 : a3.IsWhole) (a4 : Memref sig .tc .vmem S1024x128 .f32) (h4 : a4.IsWhole)
  (a5 : Memref sig .tc .vmem S1024x2 .i32) (h5 : a5.IsWhole) (a6 : Memref sig .tc .vmem S2x4096 .i32) (h6 : a6.IsWhole)
  (a7 : Memref sig .tc .vmem S1024x1 .f32) (h7 : a7.IsWhole) (a8 : Memref sig .tc .vmem S1x1 .f32) (h8 : a8.IsWhole)
  (a9 : Memref sig .tc .vmem S1x1 .f32) (h9 : a9.IsWhole) (a10 : Memref sig .tc .vmem S128x4096 .f32) (h10 : a10.IsWhole)
  (a11 : Memref sig .tc .vmem S1x4096 .f32) (h11 : a11.IsWhole)
  (x0 : Vec Ideal S1x1 .i32) (x1 : Vec Ideal S1024x128 .f32) (x2 : Vec Ideal S128x4096 .f32) (x3 : Vec Ideal S1024x128 .f32)
  (x4 : Vec Ideal S1024x2 .i32) (x5 : Vec Ideal S2x4096 .i32) (xo7 xo8 : Vec Ideal S1x1 .f32)
  (xs0 : Vec Ideal S128x4096 .f32) (xs1 : Vec Ideal S1x4096 .f32)

theorem hz : (![0, 0] : Fin 2 → Nat) = fun _ => 0 := funext fun a => by fin_cases a <;> rfl

/-- The distance block after a later point. -/
theorem outB6_at (hc0 : ¬cond0_0 i) (hc1 : ¬cond0_1 i) (r : Fin 1024) (l : Fin 1) :
    out0_B_6 c i a1 h1 a2 h2 a3 h3 a4 h4 a5 h5 a6 h6 a7 h7 a8 h8 a9 h9 a10 h10 a11 h11 hc0 hc1 x0 x1 x2 x3 x4 x5 xo7 xo8 xs0 xs1 (ix2 r l)
      = distRow (x0 (ix2 0 0)) (fun d => x4 (ix2 r d)) (fun d j => x5 (ix2 d j)) (sims (fun k => x1 (ix2 r k)) (fun k j => xs0 (ix2 k j))) := by
  unfold out0_B_6
  rw [View.read_writes_eq_canon _ _ _ (cover0_B_6 c i a1 h1 a2 h2 a3 h3 a4 h4 a5 h5 a6 h6 a7 h7 a8 h8 a9 h9 a10 h10 a11 h11 hc0 hc1 x0 x1 x2 x3 x4 x5 xo7 xo8 xs0 xs1)]
  unfold kernelRun0_B; dsimp only
  sl_unfold_words
  rw [View.canon_unit_zero hz]
  simp only [View.readAt_eq_ld, h1.read_unread, h2.read_unread, h3.read_unread, h4.read_unread, h5.read_unread,
    h6.read_unread, h7.read_unread, h8.read_unread, h9.read_unread, h10.read_unread, h11.read_unread,
    View.ld_unit_zero (S := S1024x128) hz, View.ld_unit_zero (S := S128x4096) hz, View.ld_unit_zero (S := S1x1) hz,
    View.ld_unit_zero (S := S1x4096) hz, shapeCast_self]
  rw [pay21_at, pay20_at]
  simp only [pay11_at, pay6_at]
  pointwise [k0_pay12, k0_pay13]
  rfl

/-- The loss accumulator after a later point. -/
theorem outB7_at (hc0 : ¬cond0_0 i) (hc1 : ¬cond0_1 i) (r l : Fin 1) :
    out0_B_7 c i a1 h1 a2 h2 a3 h3 a4 h4 a5 h5 a6 h6 a7 h7 a8 h8 a9 h9 a10 h10 a11 h11 hc0 hc1 x0 x1 x2 x3 x4 x5 xo7 xo8 xs0 xs1 (ix2 r l)
      = xo7 (ix2 r l) + Ideal.div (∑ x : Fin 1024, ∑ _y : Fin 1,
      lossRow (x0 (ix2 0 0)) (fun d => x4 (ix2 x d)) (fun d j => x5 (ix2 d j)) (fun k => x1 (ix2 x k)) (fun k => x3 (ix2 x k))
        (sims (fun k => x1 (ix2 x k)) (fun k j => xs0 (ix2 k j))) (fun j => xs1 (ix2 0 j))) (Ideal.ofBits .f32 0x45800000#32) := by
  unfold out0_B_7
  rw [View.read_writes_eq_canon _ _ _ (cover0_B_7 c i a1 h1 a2 h2 a3 h3 a4 h4 a5 h5 a6 h6 a7 h7 a8 h8 a9 h9 a10 h10 a11 h11 hc0 hc1 x0 x1 x2 x3 x4 x5 xo7 xo8 xs0 xs1)]
  unfold kernelRun0_B; dsimp only
  sl_unfold_words
  rw [View.canon_unit_zero hz]
  simp only [View.readAt_eq_ld, h1.read_unread, h2.read_unread, h3.read_unread, h4.read_unread, h5.read_unread,
    h6.read_unread, h7.read_unread, h8.read_unread, h9.read_unread, h10.read_unread, h11.read_unread,
    View.ld_unit_zero (S := S1024x128) hz, View.ld_unit_zero (S := S128x4096) hz, View.ld_unit_zero (S := S1x1) hz,
    View.ld_unit_zero (S := S1x4096) hz, shapeCast_self]
  rw [pay3_at]
  simp only [pay23_at, pay24_at, pay22_at, pay20_at, pay19_at, pay15_at, pay11_at, pay6_at, pay7_at]
  have e0 : ∀ y, View.ld x0 (Rect.unit (s := S1x1) ![0, 0] S1x1.size inb_S1x1_S1x1_0_0) y = x0 (ix2 0 0) := by
    intro y; rw [View.ld_unit_zero (S := S1x1) hz]; exact congrArg x0 (funext fun a => by fin_cases a <;> exact Subsingleton.elim (α := Fin 1) _ _)
  have e1 : ∀ x : Fin 1024, k0_pay12 (View.ld x4 (Rect.unit (s := S1024x2) ![0, 0] S1024x1.size inb_S1024x2_S1024x1_0_0)) (ix2 x 0) = x4 (ix2 x 0) := by
    intro x; pointwise [k0_pay12]
  have e2 : ∀ x : Fin 1024, k0_pay13 (View.ld x4 (Rect.unit (s := S1024x2) ![0, 1] S1024x1.size inb_S1024x2_S1024x1_0_1)) (ix2 x 0) = x4 (ix2 x 1) := by
    intro x; pointwise [k0_pay13]
  have e3 : ∀ x : Fin 4096, View.ld x5 (Rect.unit (s := S2x4096) ![0, 0] S1x4096.size inb_S2x4096_S1x4096_0_0) (ix2 0 x) = x5 (ix2 0 x) := by
    intro x; pointwise []
  have e4 : ∀ x : Fin 4096, View.ld x5 (Rect.unit (s := S2x4096) ![1, 0] S1x4096.size inb_S2x4096_S1x4096_1_0) (ix2 0 x) = x5 (ix2 1 x) := by
    intro x; pointwise []
  simp only [e0, e1, e2, e3, e4, lossRow, masked_eq, sims_eq]
  refine congrArg (fun z => _ + Ideal.div z _) (Finset.sum_congr rfl fun x _ => Finset.sum_congr rfl fun _ _ =>
    congrArg (fun z => max (dap _ _ - dan _ _ _ z + _) 0) (congrArg big (funext fun j => ?_)))
  congr

/-- The recall accumulator after a later point. -/
theorem outB8_at (hc0 : ¬cond0_0 i) (hc1 : ¬cond0_1 i) (r l : Fin 1) :
    out0_B_8 c i a1 h1 a2 h2 a3 h3 a4 h4 a5 h5 a6 h6 a7 h7 a8 h8 a9 h9 a10 h10 a11 h11 hc0 hc1 x0 x1 x2 x3 x4 x5 xo7 xo8 xs0 xs1 (ix2 r l)
      = xo8 (ix2 r l) + Ideal.div (∑ x : Fin 1024, ∑ _y : Fin 1,
      recRow (fun d => x4 (ix2 x d)) (fun d j => x5 (ix2 d j)) (sims (fun k => x1 (ix2 x k)) (fun k j => xs0 (ix2 k j)))) (Ideal.ofBits .f32 0x45800000#32) := by
  unfold out0_B_8
  rw [View.read_writes_eq_canon _ _ _ (cover0_B_8 c i a1 h1 a2 h2 a3 h3 a4 h4 a5 h5 a6 h6 a7 h7 a8 h8 a9 h9 a10 h10 a11 h11 hc0 hc1 x0 x1 x2 x3 x4 x5 xo7 xo8 xs0 xs1)]
  unfold kernelRun0_B; dsimp only
  sl_unfold_words
  rw [View.canon_unit_zero hz]
  simp only [View.readAt_eq_ld, h1.read_unread, h2.read_unread, h3.read_unread, h4.read_unread, h5.read_unread,
    h6.read_unread, h7.read_unread, h8.read_unread, h9.read_unread, h10.read_unread, h11.read_unread,
    View.ld_unit_zero (S := S1024x128) hz, View.ld_unit_zero (S := S128x4096) hz, View.ld_unit_zero (S := S1x1) hz,
    View.ld_unit_zero (S := S1x4096) hz, shapeCast_self]
  rw [pay4_at, pay18_at]
  simp only [pay16_at, pay17_at, pay14_at, pay15_at, pay11_at, pay6_at]
  have e1 : ∀ x : Fin 1024, View.ld x4 (Rect.unit (s := S1024x2) ![0, 0] S1024x1.size inb_S1024x2_S1024x1_0_0) (ix2 x 0) = x4 (ix2 x 0) := by
    intro x; pointwise []
  have e2 : ∀ x : Fin 1024, View.ld x4 (Rect.unit (s := S1024x2) ![0, 1] S1024x1.size inb_S1024x2_S1024x1_0_1) (ix2 x 0) = x4 (ix2 x 1) := by
    intro x; pointwise []
  have e3 : ∀ x : Fin 4096, View.ld x5 (Rect.unit (s := S2x4096) ![0, 0] S1x4096.size inb_S2x4096_S1x4096_0_0) (ix2 0 x) = x5 (ix2 0 x) := by
    intro x; pointwise []
  have e4 : ∀ x : Fin 4096, View.ld x5 (Rect.unit (s := S2x4096) ![1, 0] S1x4096.size inb_S2x4096_S1x4096_1_0) (ix2 0 x) = x5 (ix2 1 x) := by
    intro x; pointwise []
  simp only [e1, e2, e3, e4, recRow, sims_eq, Ideal.ofBits_def]
  refine congrArg (fun z => _ + Ideal.div z _) (Finset.sum_congr rfl fun x _ => Finset.sum_congr rfl fun _ _ =>
    congrArg (fun z => hit z _) (congrArg big (funext fun j => ?_)))
  congr

/-- The distance block after the first point. -/
theorem outA6_at (hc0 : cond0_0 i) (hc1 : cond0_1 i) (r : Fin 1024) (l : Fin 1) :
    out0_A_6 c i a1 h1 a2 h2 a3 h3 a4 h4 a5 h5 a6 h6 a7 h7 a8 h8 a9 h9 a10 h10 a11 h11 hc0 hc1 x0 x1 x2 x3 x4 x5 (ix2 r l)
      = distRow (x0 (ix2 0 0)) (fun d => x4 (ix2 r d)) (fun d j => x5 (ix2 d j)) (sims (fun k => x1 (ix2 r k)) (fun k j => unit (fun e => x2 (ix2 e j)) k)) := by
  unfold out0_A_6
  rw [View.read_writes_eq_canon _ _ _ (cover0_A_6 c i a1 h1 a2 h2 a3 h3 a4 h4 a5 h5 a6 h6 a7 h7 a8 h8 a9 h9 a10 h10 a11 h11 hc0 hc1 x0 x1 x2 x3 x4 x5)]
  unfold kernelRun0_A; dsimp only
  sl_unfold_words
  rw [View.canon_unit_zero hz]
  try simp only [View.readCov_unit_zero (S := S128x4096) _ hz, View.readCov_unit_zero (S := S1x4096) _ hz, View.readCov_unit_zero (S := S1x1) _ hz]
  simp only [View.readAt_eq_ld, h1.read_unread, h2.read_unread, h3.read_unread, h4.read_unread, h5.read_unread,
    h6.read_unread, h7.read_unread, h8.read_unread, h9.read_unread, h10.read_unread, h11.read_unread,
    View.ld_unit_zero (S := S1024x128) hz, View.ld_unit_zero (S := S128x4096) hz, View.ld_unit_zero (S := S1x1) hz,
    View.ld_unit_zero (S := S1x4096) hz, shapeCast_self]
  rw [pay21_at, pay20_at]
  simp only [pay11_at, pay6_at]
  pointwise [k0_pay12, k0_pay13]
  rfl

/-- The loss accumulator after the first point. -/
theorem outA7_at (hc0 : cond0_0 i) (hc1 : cond0_1 i) (r l : Fin 1) :
    out0_A_7 c i a1 h1 a2 h2 a3 h3 a4 h4 a5 h5 a6 h6 a7 h7 a8 h8 a9 h9 a10 h10 a11 h11 hc0 hc1 x0 x1 x2 x3 x4 x5 (ix2 r l)
      = k0_pay1 (F := Ideal) (ix2 r l) + Ideal.div (∑ x : Fin 1024, ∑ _y : Fin 1,
      lossRow (x0 (ix2 0 0)) (fun d => x4 (ix2 x d)) (fun d j => x5 (ix2 d j)) (fun k => x1 (ix2 x k)) (fun k => x3 (ix2 x k))
        (sims (fun k => x1 (ix2 x k)) (fun k j => unit (fun e => x2 (ix2 e j)) k)) (fun j => wt (fun e => x2 (ix2 e j)))) (Ideal.ofBits .f32 0x45800000#32) := by
  unfold out0_A_7
  rw [View.read_writes_eq_canon _ _ _ (cover0_A_7 c i a1 h1 a2 h2 a3 h3 a4 h4 a5 h5 a6 h6 a7 h7 a8 h8 a9 h9 a10 h10 a11 h11 hc0 hc1 x0 x1 x2 x3 x4 x5)]
  unfold kernelRun0_A; dsimp only
  sl_unfold_words
  rw [View.canon_cons_unit_zero (S := S1x1) hz]
  try simp only [View.readCov_unit_zero (S := S128x4096) _ hz, View.readCov_unit_zero (S := S1x4096) _ hz, View.readCov_unit_zero (S := S1x1) _ hz]
  simp only [View.readAt_eq_ld, h1.read_unread, h2.read_unread, h3.read_unread, h4.read_unread, h5.read_unread,
    h6.read_unread, h7.read_unread, h8.read_unread, h9.read_unread, h10.read_unread, h11.read_unread,
    View.ld_unit_zero (S := S1024x128) hz, View.ld_unit_zero (S := S128x4096) hz, View.ld_unit_zero (S := S1x1) hz,
    View.ld_unit_zero (S := S1x4096) hz, shapeCast_self]
  rw [pay3_at]
  simp only [pay23_at, pay24_at, pay22_at, pay20_at, pay19_at, pay15_at, pay11_at, pay6_at, pay7_at]
  have e0 : ∀ y, View.ld x0 (Rect.unit (s := S1x1) ![0, 0] S1x1.size inb_S1x1_S1x1_0_0) y = x0 (ix2 0 0) := by
    intro y; rw [View.ld_unit_zero (S := S1x1) hz]; exact congrArg x0 (funext fun a => by fin_cases a <;> exact Subsingleton.elim (α := Fin 1) _ _)
  have e1 : ∀ x : Fin 1024, k0_pay12 (View.ld x4 (Rect.unit (s := S1024x2) ![0, 0] S1024x1.size inb_S1024x2_S1024x1_0_0)) (ix2 x 0) = x4 (ix2 x 0) := by
    intro x; pointwise [k0_pay12]
  have e2 : ∀ x : Fin 1024, k0_pay13 (View.ld x4 (Rect.unit (s := S1024x2) ![0, 1] S1024x1.size inb_S1024x2_S1024x1_0_1)) (ix2 x 0) = x4 (ix2 x 1) := by
    intro x; pointwise [k0_pay13]
  have e3 : ∀ x : Fin 4096, View.ld x5 (Rect.unit (s := S2x4096) ![0, 0] S1x4096.size inb_S2x4096_S1x4096_0_0) (ix2 0 x) = x5 (ix2 0 x) := by
    intro x; pointwise []
  have e4 : ∀ x : Fin 4096, View.ld x5 (Rect.unit (s := S2x4096) ![1, 0] S1x4096.size inb_S2x4096_S1x4096_1_0) (ix2 0 x) = x5 (ix2 1 x) := by
    intro x; pointwise []
  simp only [e0, e1, e2, e3, e4, lossRow, masked_eq, sims_eq]
  refine congrArg (fun z => _ + Ideal.div z _) (Finset.sum_congr rfl fun x _ => Finset.sum_congr rfl fun _ _ =>
    congrArg (fun z => max (dap _ _ - dan _ _ _ z + _) 0) (congrArg big (funext fun j => ?_)))
  congr

/-- The recall accumulator after the first point. -/
theorem outA8_at (hc0 : cond0_0 i) (hc1 : cond0_1 i) (r l : Fin 1) :
    out0_A_8 c i a1 h1 a2 h2 a3 h3 a4 h4 a5 h5 a6 h6 a7 h7 a8 h8 a9 h9 a10 h10 a11 h11 hc0 hc1 x0 x1 x2 x3 x4 x5 (ix2 r l)
      = k0_pay2 (F := Ideal) (ix2 r l) + Ideal.div (∑ x : Fin 1024, ∑ _y : Fin 1,
      recRow (fun d => x4 (ix2 x d)) (fun d j => x5 (ix2 d j)) (sims (fun k => x1 (ix2 x k)) (fun k j => unit (fun e => x2 (ix2 e j)) k))) (Ideal.ofBits .f32 0x45800000#32) := by
  unfold out0_A_8
  rw [View.read_writes_eq_canon _ _ _ (cover0_A_8 c i a1 h1 a2 h2 a3 h3 a4 h4 a5 h5 a6 h6 a7 h7 a8 h8 a9 h9 a10 h10 a11 h11 hc0 hc1 x0 x1 x2 x3 x4 x5)]
  unfold kernelRun0_A; dsimp only
  sl_unfold_words
  rw [View.canon_cons_unit_zero (S := S1x1) hz]
  try simp only [View.readCov_unit_zero (S := S128x4096) _ hz, View.readCov_unit_zero (S := S1x4096) _ hz, View.readCov_unit_zero (S := S1x1) _ hz]
  simp only [View.readAt_eq_ld, h1.read_unread, h2.read_unread, h3.read_unread, h4.read_unread, h5.read_unread,
    h6.read_unread, h7.read_unread, h8.read_unread, h9.read_unread, h10.read_unread, h11.read_unread,
    View.ld_unit_zero (S := S1024x128) hz, View.ld_unit_zero (S := S128x4096) hz, View.ld_unit_zero (S := S1x1) hz,
    View.ld_unit_zero (S := S1x4096) hz, shapeCast_self]
  rw [pay4_at, pay18_at]
  simp only [pay16_at, pay17_at, pay14_at, pay15_at, pay11_at, pay6_at]
  have e1 : ∀ x : Fin 1024, View.ld x4 (Rect.unit (s := S1024x2) ![0, 0] S1024x1.size inb_S1024x2_S1024x1_0_0) (ix2 x 0) = x4 (ix2 x 0) := by
    intro x; pointwise []
  have e2 : ∀ x : Fin 1024, View.ld x4 (Rect.unit (s := S1024x2) ![0, 1] S1024x1.size inb_S1024x2_S1024x1_0_1) (ix2 x 0) = x4 (ix2 x 1) := by
    intro x; pointwise []
  have e3 : ∀ x : Fin 4096, View.ld x5 (Rect.unit (s := S2x4096) ![0, 0] S1x4096.size inb_S2x4096_S1x4096_0_0) (ix2 0 x) = x5 (ix2 0 x) := by
    intro x; pointwise []
  have e4 : ∀ x : Fin 4096, View.ld x5 (Rect.unit (s := S2x4096) ![1, 0] S1x4096.size inb_S2x4096_S1x4096_1_0) (ix2 0 x) = x5 (ix2 1 x) := by
    intro x; pointwise []
  simp only [e1, e2, e3, e4, recRow, sims_eq, Ideal.ofBits_def]
  refine congrArg (fun z => _ + Ideal.div z _) (Finset.sum_congr rfl fun x _ => Finset.sum_congr rfl fun _ _ =>
    congrArg (fun z => hit z _) (congrArg big (funext fun j => ?_)))
  congr

/-- Scratch buffer 0 after the first point. -/
theorem sA0_at (hc0 : cond0_0 i) (hc1 : cond0_1 i) (r : Fin 128) (l : Fin 4096) :
    sout0_A_0 c i a1 h1 a2 h2 a3 h3 a4 h4 a5 h5 a6 h6 a7 h7 a8 h8 a9 h9 a10 h10 a11 h11 hc0 hc1 x0 x1 x2 x3 x4 x5 (ix2 r l) = unit (fun e => x2 (ix2 e l)) r := by
  unfold sout0_A_0
  rw [View.read_writes_eq_canon _ _ _ (scover0_A_0 c i a1 h1 a2 h2 a3 h3 a4 h4 a5 h5 a6 h6 a7 h7 a8 h8 a9 h9 a10 h10 a11 h11 hc0 hc1 x0 x1 x2 x3 x4 x5)]
  unfold kernelRun0_A; dsimp only
  sl_unfold_words
  rw [View.canon_unit_zero hz]
  simp only [View.readAt_eq_ld, h1.read_unread, h2.read_unread, h3.read_unread, h4.read_unread, h5.read_unread,
    h6.read_unread, h7.read_unread, h8.read_unread, h9.read_unread, h10.read_unread, h11.read_unread,
    View.ld_unit_zero (S := S1024x128) hz, View.ld_unit_zero (S := S128x4096) hz, View.ld_unit_zero (S := S1x1) hz,
    View.ld_unit_zero (S := S1x4096) hz, shapeCast_self]
  exact pay6_at x2 r l

/-- Scratch buffer 1 after the first point. -/
theorem sA1_at (hc0 : cond0_0 i) (hc1 : cond0_1 i) (r : Fin 1) (l : Fin 4096) :
    sout0_A_1 c i a1 h1 a2 h2 a3 h3 a4 h4 a5 h5 a6 h6 a7 h7 a8 h8 a9 h9 a10 h10 a11 h11 hc0 hc1 x0 x1 x2 x3 x4 x5 (ix2 r l) = wt (fun e => x2 (ix2 e l)) := by
  unfold sout0_A_1
  rw [View.read_writes_eq_canon _ _ _ (scover0_A_1 c i a1 h1 a2 h2 a3 h3 a4 h4 a5 h5 a6 h6 a7 h7 a8 h8 a9 h9 a10 h10 a11 h11 hc0 hc1 x0 x1 x2 x3 x4 x5)]
  unfold kernelRun0_A; dsimp only
  sl_unfold_words
  rw [View.canon_unit_zero hz]
  simp only [View.readAt_eq_ld, h1.read_unread, h2.read_unread, h3.read_unread, h4.read_unread, h5.read_unread,
    h6.read_unread, h7.read_unread, h8.read_unread, h9.read_unread, h10.read_unread, h11.read_unread,
    View.ld_unit_zero (S := S1024x128) hz, View.ld_unit_zero (S := S128x4096) hz, View.ld_unit_zero (S := S1x1) hz,
    View.ld_unit_zero (S := S1x4096) hz, shapeCast_self]
  exact pay7_at x2 r l

end Cert.Mine

end
-- ==== Proof.KernelPts.lean ====
/- What the kernel's three outputs hold after the run, as functions of the arguments: each grid point's blocks read
   where they lie in the arguments, the points' contributions added in order. -/
module

public import proofs.«01_k».proof.Proof.Gen.KernelIdeal.Value
public import proofs.«01_k».proof.Proof.KernelBlock
public import Idealize.ShloMosaic.Lib.Pipeline.ValueKit.Point

@[expose] public section

set_option maxRecDepth 16384

noncomputable section

namespace Cert.Mine

open Idealize.ShloMosaic Idealize.ShloMosaic.TcCoe Idealize.SL.Sem Cert.KernelIdeal Cert.KernelIdeal.Gen

variable (m : (ℓ : Loc nD τ sig) → Buf (Elt Ideal) ℓ)

theorem idx0 : ∀ t : Fin cfg0.N, win0_0.index t 0 = 0 ∧ win0_0.index t 1 = 0 := by decide +kernel
theorem idx1 : ∀ t : Fin cfg0.N, win0_1.index t 0 = t.val ∧ win0_1.index t 1 = 0 := by decide +kernel
theorem idx2 : ∀ t : Fin cfg0.N, win0_2.index t 0 = 0 ∧ win0_2.index t 1 = 0 := by decide +kernel
theorem idx3 : ∀ t : Fin cfg0.N, win0_3.index t 0 = t.val ∧ win0_3.index t 1 = 0 := by decide +kernel
theorem idx4 : ∀ t : Fin cfg0.N, win0_4.index t 0 = t.val ∧ win0_4.index t 1 = 0 := by decide +kernel
theorem idx5 : ∀ t : Fin cfg0.N, win0_5.index t 0 = 0 ∧ win0_5.index t 1 = 0 := by decide +kernel

/-- The relaxation as a grid point reads it. -/
theorem blk0 (c : Dev nD) (t : Fin cfg0.N) :
    (iblk m c 0 t : Vec Ideal S1x1 .i32) (ix2 0 0) = m ((c.tc : Thread nD τ).loc main_arg3) ix0 := by
  blk_point [iblk, V, idx0 t]

/-- A source block is the source's columns, as rows. -/
theorem blk1 (c : Dev nD) (t : Fin cfg0.N) (r : Fin 1024) (k : Fin 128) (h : 1024 * t.val + r.val < 4096) :
    (iblk m c 1 t : Vec Ideal S1024x128 .f32) (ix2 r k) = m ((c.tc : Thread nD τ).loc main_arg0) (ix2 k ⟨1024 * t.val + r.val, h⟩) := by
  blk_point [iblk, V, idx1 t]

/-- The whole target. -/
theorem blk2 (c : Dev nD) (t : Fin cfg0.N) (k : Fin 128) (j : Fin 4096) :
    (iblk m c 2 t : Vec Ideal S128x4096 .f32) (ix2 k j) = m ((c.tc : Thread nD τ).loc main_arg1) (ix2 k j) := by
  blk_point [iblk, V, idx2 t]

/-- A target block is the target's columns, as rows. -/
theorem blk3 (c : Dev nD) (t : Fin cfg0.N) (r : Fin 1024) (k : Fin 128) (h : 1024 * t.val + r.val < 4096) :
    (iblk m c 3 t : Vec Ideal S1024x128 .f32) (ix2 r k) = m ((c.tc : Thread nD τ).loc main_arg1) (ix2 k ⟨1024 * t.val + r.val, h⟩) := by
  blk_point [iblk, V, idx3 t]

/-- A block of points. -/
theorem blk4 (c : Dev nD) (t : Fin cfg0.N) (r : Fin 1024) (k : Fin 2) (h : 1024 * t.val + r.val < 4096) :
    (iblk m c 4 t : Vec Ideal S1024x2 .i32) (ix2 r k) = m ((c.tc : Thread nD τ).loc main_arg2) (ix2 k ⟨1024 * t.val + r.val, h⟩) := by
  blk_point [iblk, V, idx4 t]

/-- All points. -/
theorem blk5 (c : Dev nD) (t : Fin cfg0.N) (r : Fin 2) (k : Fin 4096) :
    (iblk m c 5 t : Vec Ideal S2x4096 .i32) (ix2 r k) = m ((c.tc : Thread nD τ).loc main_arg2) (ix2 r k) := by
  blk_point [iblk, V, idx5 t]

/-- The four arguments as functions of their indices. -/
def argX (c : Dev nD) (k : Fin 128) (i : Fin 4096) : EReal := m ((c.tc : Thread nD τ).loc main_arg0) (ix2 k i)
def argY (c : Dev nD) (k : Fin 128) (i : Fin 4096) : EReal := m ((c.tc : Thread nD τ).loc main_arg1) (ix2 k i)
def argQ (c : Dev nD) (d : Fin 2) (i : Fin 4096) : BitVec 32 := m ((c.tc : Thread nD τ).loc main_arg2) (ix2 d i)
def argR (c : Dev nD) : BitVec 32 := m ((c.tc : Thread nD τ).loc main_arg3) ix0

/-- The similarities of source column `i`. -/
def simsOf (X Y : Fin 128 → Fin 4096 → EReal) (i : Fin 4096) : Fin 4096 → EReal :=
  sims (fun k => X k i) (fun k j => unit (fun e => Y e j) k)

/-- The kernel's distance, recall term and loss term for source column `i`, from the arguments. -/
def kDist (X Y : Fin 128 → Fin 4096 → EReal) (Q : Fin 2 → Fin 4096 → BitVec 32) (R : BitVec 32) (i : Fin 4096) : EReal :=
  distRow R (fun d => Q d i) Q (simsOf X Y i)
def kRec (X Y : Fin 128 → Fin 4096 → EReal) (Q : Fin 2 → Fin 4096 → BitVec 32) (i : Fin 4096) : EReal :=
  recRow (fun d => Q d i) Q (simsOf X Y i)
def kLoss (X Y : Fin 128 → Fin 4096 → EReal) (Q : Fin 2 → Fin 4096 → BitVec 32) (R : BitVec 32) (i : Fin 4096) : EReal :=
  lossRow R (fun d => Q d i) Q (fun k => X k i) (fun k => Y k i) (simsOf X Y i) (fun j => wt (fun e => Y e j))

/-- The contribution of one grid point to an accumulator: the sum of its 1024 columns' terms, divided by 4096. -/
def part (f : Fin 4096 → EReal) (n : ℕ) : EReal :=
  Ideal.div (∑ x : Fin 1024, ∑ _y : Fin 1, if h : 1024 * n + x.val < 4096 then f ⟨1024 * n + x.val, h⟩ else 0)
    (Ideal.ofBits .f32 0x45800000#32)

/-- An accumulator after point `n`. -/
def accum (z : EReal) (f : Fin 4096 → EReal) : ℕ → EReal
  | 0 => z + part f 0
  | n + 1 => accum z f n + part f (n + 1)

theorem accum_zero (z : EReal) (f : Fin 4096 → EReal) : accum z f 0 = z + part f 0 := rfl
theorem accum_succ (z : EReal) (f : Fin 4096 → EReal) (n : ℕ) : accum z f (n + 1) = accum z f n + part f (n + 1) := rfl

section Point
variable (c : Dev nD) (t : Fin cfg0.N)

theorem bound (r : Fin 1024) : 1024 * t.val + r.val < 4096 := by
  have h : t.val < 4 := lt_of_lt_of_eq t.isLt N_0
  omega

theorem dist_read (r : Fin 1024) (i : Fin 4096) (hi : i.val = 1024 * t.val + r.val) :
    distRow ((iblk m c 0 t : Vec Ideal S1x1 .i32) (ix2 0 0)) (fun d => (iblk m c 4 t : Vec Ideal S1024x2 .i32) (ix2 r d))
      (fun d j => (iblk m c 5 t : Vec Ideal S2x4096 .i32) (ix2 d j))
      (sims (fun k => (iblk m c 1 t : Vec Ideal S1024x128 .f32) (ix2 r k)) (fun k j => unit (fun e => argY m c e j) k))
    = kDist (argX m c) (argY m c) (argQ m c) (argR m c) i := by
  have hi' : i = ⟨1024 * t.val + r.val, bound t r⟩ := Fin.ext hi
  have e1 : (fun k => (iblk m c 1 t : Vec Ideal S1024x128 .f32) (ix2 r k)) = _ := funext fun k => blk1 m c t r k (bound t r)
  have e4 : (fun k => (iblk m c 4 t : Vec Ideal S1024x2 .i32) (ix2 r k)) = _ := funext fun k => blk4 m c t r k (bound t r)
  have e5 : (fun d j => (iblk m c 5 t : Vec Ideal S2x4096 .i32) (ix2 d j)) = _ := funext fun d => funext fun j => blk5 m c t d j
  rw [blk0, e1, e4, e5, hi']; rfl

theorem rec_read (f : Fin 4096 → EReal) (hf : f = kRec (argX m c) (argY m c) (argQ m c)) :
    Ideal.div (∑ x : Fin 1024, ∑ _y : Fin 1, recRow (fun d => (iblk m c 4 t : Vec Ideal S1024x2 .i32) (ix2 x d))
      (fun d j => (iblk m c 5 t : Vec Ideal S2x4096 .i32) (ix2 d j))
      (sims (fun k => (iblk m c 1 t : Vec Ideal S1024x128 .f32) (ix2 x k)) (fun k j => unit (fun e => argY m c e j) k)))
      (Ideal.ofBits .f32 0x45800000#32) = part f t.val := by
  unfold part
  refine congrArg (fun z => Ideal.div z _) (Finset.sum_congr rfl fun r _ => Finset.sum_congr rfl fun _ _ => ?_)
  have e1 : (fun k => (iblk m c 1 t : Vec Ideal S1024x128 .f32) (ix2 r k)) = _ := funext fun k => blk1 m c t r k (bound t r)
  have e4 : (fun k => (iblk m c 4 t : Vec Ideal S1024x2 .i32) (ix2 r k)) = _ := funext fun k => blk4 m c t r k (bound t r)
  have e5 : (fun d j => (iblk m c 5 t : Vec Ideal S2x4096 .i32) (ix2 d j)) = _ := funext fun d => funext fun j => blk5 m c t d j
  rw [e1, e4, e5, dif_pos (bound t r), hf]; rfl

theorem loss_read (f : Fin 4096 → EReal) (hf : f = kLoss (argX m c) (argY m c) (argQ m c) (argR m c)) :
    Ideal.div (∑ x : Fin 1024, ∑ _y : Fin 1, lossRow ((iblk m c 0 t : Vec Ideal S1x1 .i32) (ix2 0 0))
      (fun d => (iblk m c 4 t : Vec Ideal S1024x2 .i32) (ix2 x d))
      (fun d j => (iblk m c 5 t : Vec Ideal S2x4096 .i32) (ix2 d j))
      (fun k => (iblk m c 1 t : Vec Ideal S1024x128 .f32) (ix2 x k)) (fun k => (iblk m c 3 t : Vec Ideal S1024x128 .f32) (ix2 x k))
      (sims (fun k => (iblk m c 1 t : Vec Ideal S1024x128 .f32) (ix2 x k)) (fun k j => unit (fun e => argY m c e j) k))
      (fun j => wt (fun e => argY m c e j))) (Ideal.ofBits .f32 0x45800000#32) = part f t.val := by
  unfold part
  refine congrArg (fun z => Ideal.div z _) (Finset.sum_congr rfl fun r _ => Finset.sum_congr rfl fun _ _ => ?_)
  have e1 : (fun k => (iblk m c 1 t : Vec Ideal S1024x128 .f32) (ix2 r k)) = _ := funext fun k => blk1 m c t r k (bound t r)
  have e3 : (fun k => (iblk m c 3 t : Vec Ideal S1024x128 .f32) (ix2 r k)) = _ := funext fun k => blk3 m c t r k (bound t r)
  have e4 : (fun k => (iblk m c 4 t : Vec Ideal S1024x2 .i32) (ix2 r k)) = _ := funext fun k => blk4 m c t r k (bound t r)
  have e5 : (fun d j => (iblk m c 5 t : Vec Ideal S2x4096 .i32) (ix2 d j)) = _ := funext fun d => funext fun j => blk5 m c t d j
  rw [blk0, e1, e3, e4, e5, dif_pos (bound t r), hf]; rfl

end Point

/-- What the outputs and the scratch buffers hold after point `n`. -/
structure After (c : Dev nD) (n : ℕ) (h : n < cfg0.N) : Prop where
  dist : ∀ (r : Fin 1024) (l : Fin 1) (i : Fin 4096), i.val = 1024 * n + r.val → (outsAt0 m c n h).1 (ix2 r l)
    = kDist (argX m c) (argY m c) (argQ m c) (argR m c) i
  loss : ∀ r l : Fin 1, (outsAt0 m c n h).2.1 (ix2 r l)
    = accum (k0_pay1 (F := Ideal) (ix2 r l)) (kLoss (argX m c) (argY m c) (argQ m c) (argR m c)) n
  recall : ∀ r l : Fin 1, (outsAt0 m c n h).2.2.1 (ix2 r l)
    = accum (k0_pay2 (F := Ideal) (ix2 r l)) (kRec (argX m c) (argY m c) (argQ m c)) n
  tn : (fun (k : Fin 128) (j : Fin 4096) => (outsAt0 m c n h).2.2.2.1 (ix2 k j)) = fun k j => unit (fun e => argY m c e j) k
  w : (fun (j : Fin 4096) => (outsAt0 m c n h).2.2.2.2 (ix2 0 j)) = fun j => wt (fun e => argY m c e j)

theorem col_eq (c : Dev nD) (t : Fin cfg0.N) :
    (fun (k : Fin 128) (j : Fin 4096) => unit (fun e => (iblk m c 2 t : Vec Ideal S128x4096 .f32) (ix2 e j)) k)
      = fun k j => unit (fun e => argY m c e j) k :=
  funext fun k => funext fun j => congrArg (fun v => unit v k) (funext fun e => blk2 m c t e j)

theorem wt_eq (c : Dev nD) (t : Fin cfg0.N) :
    (fun (j : Fin 4096) => wt (fun e => (iblk m c 2 t : Vec Ideal S128x4096 .f32) (ix2 e j)))
      = fun j => wt (fun e => argY m c e j) :=
  funext fun j => congrArg wt (funext fun e => blk2 m c t e j)

/-! The body's results at one point, with what the point reads from the arguments. -/

theorem stA6_at (c : Dev nD) (n : ℕ) (hb : n < cfg0.N) (acc : Vec Ideal S1024x1 .f32 × Vec Ideal S1x1 .f32 × Vec Ideal S1x1 .f32 × Vec Ideal S128x4096 .f32 × Vec Ideal S1x4096 .f32) (h0 : n % 4 = 0) (r : Fin 1024) (l : Fin 1) :
    (Value.stAt0 m c n hb acc).1 (ix2 r l)
      = distRow ((iblk m c 0 ⟨n, hb⟩ : Vec Ideal S1x1 .i32) (ix2 0 0)) (fun d => (iblk m c 4 ⟨n, hb⟩ : Vec Ideal S1024x2 .i32) (ix2 r d)) (fun d j => (iblk m c 5 ⟨n, hb⟩ : Vec Ideal S2x4096 .i32) (ix2 d j)) (sims (fun k => (iblk m c 1 ⟨n, hb⟩ : Vec Ideal S1024x128 .f32) (ix2 r k)) (fun k j => unit (fun e => (iblk m c 2 ⟨n, hb⟩ : Vec Ideal S128x4096 .f32) (ix2 e j)) k)) :=
  (congrArg (fun o => o.1 (ix2 r l)) (Value.stAt0_A m c ⟨n, hb⟩ acc h0 h0)).trans
    (outA6_at c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) scM0_0 (Memref.isWhole_whole _) scM0_1 (Memref.isWhole_whole _) (iblk m c 0 ⟨n, hb⟩) (iblk m c 1 ⟨n, hb⟩) (iblk m c 2 ⟨n, hb⟩) (iblk m c 3 ⟨n, hb⟩) (iblk m c 4 ⟨n, hb⟩) (iblk m c 5 ⟨n, hb⟩) ((hcond0_0 ⟨n, hb⟩).mpr h0) ((hcond0_1 ⟨n, hb⟩).mpr h0) r l)

theorem stA7_at (c : Dev nD) (n : ℕ) (hb : n < cfg0.N) (acc : Vec Ideal S1024x1 .f32 × Vec Ideal S1x1 .f32 × Vec Ideal S1x1 .f32 × Vec Ideal S128x4096 .f32 × Vec Ideal S1x4096 .f32) (h0 : n % 4 = 0) (r l : Fin 1) :
    (Value.stAt0 m c n hb acc).2.1 (ix2 r l)
      = k0_pay1 (F := Ideal) (ix2 r l) + Ideal.div (∑ x : Fin 1024, ∑ _y : Fin 1, lossRow ((iblk m c 0 ⟨n, hb⟩ : Vec Ideal S1x1 .i32) (ix2 0 0)) (fun d => (iblk m c 4 ⟨n, hb⟩ : Vec Ideal S1024x2 .i32) (ix2 x d)) (fun d j => (iblk m c 5 ⟨n, hb⟩ : Vec Ideal S2x4096 .i32) (ix2 d j)) (fun k => (iblk m c 1 ⟨n, hb⟩ : Vec Ideal S1024x128 .f32) (ix2 x k)) (fun k => (iblk m c 3 ⟨n, hb⟩ : Vec Ideal S1024x128 .f32) (ix2 x k)) (sims (fun k => (iblk m c 1 ⟨n, hb⟩ : Vec Ideal S1024x128 .f32) (ix2 x k)) (fun k j => unit (fun e => (iblk m c 2 ⟨n, hb⟩ : Vec Ideal S128x4096 .f32) (ix2 e j)) k)) (fun j => wt (fun e => (iblk m c 2 ⟨n, hb⟩ : Vec Ideal S128x4096 .f32) (ix2 e j)))) (Ideal.ofBits .f32 0x45800000#32) :=
  (congrArg (fun o => o.2.1 (ix2 r l)) (Value.stAt0_A m c ⟨n, hb⟩ acc h0 h0)).trans
    (outA7_at c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) scM0_0 (Memref.isWhole_whole _) scM0_1 (Memref.isWhole_whole _) (iblk m c 0 ⟨n, hb⟩) (iblk m c 1 ⟨n, hb⟩) (iblk m c 2 ⟨n, hb⟩) (iblk m c 3 ⟨n, hb⟩) (iblk m c 4 ⟨n, hb⟩) (iblk m c 5 ⟨n, hb⟩) ((hcond0_0 ⟨n, hb⟩).mpr h0) ((hcond0_1 ⟨n, hb⟩).mpr h0) r l)

theorem stA8_at (c : Dev nD) (n : ℕ) (hb : n < cfg0.N) (acc : Vec Ideal S1024x1 .f32 × Vec Ideal S1x1 .f32 × Vec Ideal S1x1 .f32 × Vec Ideal S128x4096 .f32 × Vec Ideal S1x4096 .f32) (h0 : n % 4 = 0) (r l : Fin 1) :
    (Value.stAt0 m c n hb acc).2.2.1 (ix2 r l)
      = k0_pay2 (F := Ideal) (ix2 r l) + Ideal.div (∑ x : Fin 1024, ∑ _y : Fin 1, recRow (fun d => (iblk m c 4 ⟨n, hb⟩ : Vec Ideal S1024x2 .i32) (ix2 x d)) (fun d j => (iblk m c 5 ⟨n, hb⟩ : Vec Ideal S2x4096 .i32) (ix2 d j)) (sims (fun k => (iblk m c 1 ⟨n, hb⟩ : Vec Ideal S1024x128 .f32) (ix2 x k)) (fun k j => unit (fun e => (iblk m c 2 ⟨n, hb⟩ : Vec Ideal S128x4096 .f32) (ix2 e j)) k))) (Ideal.ofBits .f32 0x45800000#32) :=
  (congrArg (fun o => o.2.2.1 (ix2 r l)) (Value.stAt0_A m c ⟨n, hb⟩ acc h0 h0)).trans
    (outA8_at c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) scM0_0 (Memref.isWhole_whole _) scM0_1 (Memref.isWhole_whole _) (iblk m c 0 ⟨n, hb⟩) (iblk m c 1 ⟨n, hb⟩) (iblk m c 2 ⟨n, hb⟩) (iblk m c 3 ⟨n, hb⟩) (iblk m c 4 ⟨n, hb⟩) (iblk m c 5 ⟨n, hb⟩) ((hcond0_0 ⟨n, hb⟩).mpr h0) ((hcond0_1 ⟨n, hb⟩).mpr h0) r l)

theorem stB6_at (c : Dev nD) (n : ℕ) (hb : n < cfg0.N) (acc : Vec Ideal S1024x1 .f32 × Vec Ideal S1x1 .f32 × Vec Ideal S1x1 .f32 × Vec Ideal S128x4096 .f32 × Vec Ideal S1x4096 .f32) (h0 : ¬n % 4 = 0) (r : Fin 1024) (l : Fin 1) :
    (Value.stAt0 m c n hb acc).1 (ix2 r l)
      = distRow ((iblk m c 0 ⟨n, hb⟩ : Vec Ideal S1x1 .i32) (ix2 0 0)) (fun d => (iblk m c 4 ⟨n, hb⟩ : Vec Ideal S1024x2 .i32) (ix2 r d)) (fun d j => (iblk m c 5 ⟨n, hb⟩ : Vec Ideal S2x4096 .i32) (ix2 d j)) (sims (fun k => (iblk m c 1 ⟨n, hb⟩ : Vec Ideal S1024x128 .f32) (ix2 r k)) (fun k j => acc.2.2.2.1 (ix2 k j))) :=
  (congrArg (fun o => o.1 (ix2 r l)) (Value.stAt0_B m c ⟨n, hb⟩ acc h0 h0)).trans
    (outB6_at c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) scM0_0 (Memref.isWhole_whole _) scM0_1 (Memref.isWhole_whole _) (iblk m c 0 ⟨n, hb⟩) (iblk m c 1 ⟨n, hb⟩) (iblk m c 2 ⟨n, hb⟩) (iblk m c 3 ⟨n, hb⟩) (iblk m c 4 ⟨n, hb⟩) (iblk m c 5 ⟨n, hb⟩) acc.2.1 acc.2.2.1 acc.2.2.2.1 acc.2.2.2.2 (fun h => h0 ((hcond0_0 ⟨n, hb⟩).mp h)) (fun h => h0 ((hcond0_1 ⟨n, hb⟩).mp h)) r l)

theorem stB7_at (c : Dev nD) (n : ℕ) (hb : n < cfg0.N) (acc : Vec Ideal S1024x1 .f32 × Vec Ideal S1x1 .f32 × Vec Ideal S1x1 .f32 × Vec Ideal S128x4096 .f32 × Vec Ideal S1x4096 .f32) (h0 : ¬n % 4 = 0) (r l : Fin 1) :
    (Value.stAt0 m c n hb acc).2.1 (ix2 r l)
      = acc.2.1 (ix2 r l) + Ideal.div (∑ x : Fin 1024, ∑ _y : Fin 1, lossRow ((iblk m c 0 ⟨n, hb⟩ : Vec Ideal S1x1 .i32) (ix2 0 0)) (fun d => (iblk m c 4 ⟨n, hb⟩ : Vec Ideal S1024x2 .i32) (ix2 x d)) (fun d j => (iblk m c 5 ⟨n, hb⟩ : Vec Ideal S2x4096 .i32) (ix2 d j)) (fun k => (iblk m c 1 ⟨n, hb⟩ : Vec Ideal S1024x128 .f32) (ix2 x k)) (fun k => (iblk m c 3 ⟨n, hb⟩ : Vec Ideal S1024x128 .f32) (ix2 x k)) (sims (fun k => (iblk m c 1 ⟨n, hb⟩ : Vec Ideal S1024x128 .f32) (ix2 x k)) (fun k j => acc.2.2.2.1 (ix2 k j))) (fun j => acc.2.2.2.2 (ix2 0 j))) (Ideal.ofBits .f32 0x45800000#32) :=
  (congrArg (fun o => o.2.1 (ix2 r l)) (Value.stAt0_B m c ⟨n, hb⟩ acc h0 h0)).trans
    (outB7_at c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) scM0_0 (Memref.isWhole_whole _) scM0_1 (Memref.isWhole_whole _) (iblk m c 0 ⟨n, hb⟩) (iblk m c 1 ⟨n, hb⟩) (iblk m c 2 ⟨n, hb⟩) (iblk m c 3 ⟨n, hb⟩) (iblk m c 4 ⟨n, hb⟩) (iblk m c 5 ⟨n, hb⟩) acc.2.1 acc.2.2.1 acc.2.2.2.1 acc.2.2.2.2 (fun h => h0 ((hcond0_0 ⟨n, hb⟩).mp h)) (fun h => h0 ((hcond0_1 ⟨n, hb⟩).mp h)) r l)

theorem stB8_at (c : Dev nD) (n : ℕ) (hb : n < cfg0.N) (acc : Vec Ideal S1024x1 .f32 × Vec Ideal S1x1 .f32 × Vec Ideal S1x1 .f32 × Vec Ideal S128x4096 .f32 × Vec Ideal S1x4096 .f32) (h0 : ¬n % 4 = 0) (r l : Fin 1) :
    (Value.stAt0 m c n hb acc).2.2.1 (ix2 r l)
      = acc.2.2.1 (ix2 r l) + Ideal.div (∑ x : Fin 1024, ∑ _y : Fin 1, recRow (fun d => (iblk m c 4 ⟨n, hb⟩ : Vec Ideal S1024x2 .i32) (ix2 x d)) (fun d j => (iblk m c 5 ⟨n, hb⟩ : Vec Ideal S2x4096 .i32) (ix2 d j)) (sims (fun k => (iblk m c 1 ⟨n, hb⟩ : Vec Ideal S1024x128 .f32) (ix2 x k)) (fun k j => acc.2.2.2.1 (ix2 k j)))) (Ideal.ofBits .f32 0x45800000#32) :=
  (congrArg (fun o => o.2.2.1 (ix2 r l)) (Value.stAt0_B m c ⟨n, hb⟩ acc h0 h0)).trans
    (outB8_at c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) scM0_0 (Memref.isWhole_whole _) scM0_1 (Memref.isWhole_whole _) (iblk m c 0 ⟨n, hb⟩) (iblk m c 1 ⟨n, hb⟩) (iblk m c 2 ⟨n, hb⟩) (iblk m c 3 ⟨n, hb⟩) (iblk m c 4 ⟨n, hb⟩) (iblk m c 5 ⟨n, hb⟩) acc.2.1 acc.2.2.1 acc.2.2.2.1 acc.2.2.2.2 (fun h => h0 ((hcond0_0 ⟨n, hb⟩).mp h)) (fun h => h0 ((hcond0_1 ⟨n, hb⟩).mp h)) r l)

end Cert.Mine

end
-- ==== Proof.KernelArr.lean ====
/- The accumulation over the grid points, and the three arrays the kernel returns. -/
module

public import proofs.«01_k».proof.Proof.KernelPts
public import proofs.«01_k».proof.Proof.KernelBlock
public import Idealize.ShloMosaic.Lib.Pipeline.ValueKit.Point

@[expose] public section

set_option maxRecDepth 16384

noncomputable section

namespace Cert.Mine

open Idealize.ShloMosaic Idealize.ShloMosaic.TcCoe Idealize.SL.Sem Cert.KernelIdeal Cert.KernelIdeal.Gen

variable (m : (ℓ : Loc nD τ sig) → Buf (Elt Ideal) ℓ)

/-- What the first point leaves in the scratch buffer of the normalised target. -/
theorem first0 (c : Dev nD) (n : ℕ) (hb : n < cfg0.N) (acc : Vec Ideal S1024x1 .f32 × Vec Ideal S1x1 .f32 × Vec Ideal S1x1 .f32 × Vec Ideal S128x4096 .f32 × Vec Ideal S1x4096 .f32) (h0 : n % 4 = 0) :
    (Value.stAt0 m c n hb acc).2.2.2.1 = sout0_A_0 c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) scM0_0 (Memref.isWhole_whole _) scM0_1 (Memref.isWhole_whole _) ((hcond0_0 ⟨n, hb⟩).mpr h0) ((hcond0_1 ⟨n, hb⟩).mpr h0) (iblk m c 0 ⟨n, hb⟩) (iblk m c 1 ⟨n, hb⟩) (iblk m c 2 ⟨n, hb⟩) (iblk m c 3 ⟨n, hb⟩) (iblk m c 4 ⟨n, hb⟩) (iblk m c 5 ⟨n, hb⟩) := by
  rw [Value.stAt0_A m c ⟨n, hb⟩ acc h0 h0]

theorem scr0_at (c : Dev nD) (n : ℕ) (hb : n < cfg0.N) (h0 : n % 4 = 0) (r : Fin 128) (l : Fin 4096) :
    sout0_A_0 c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) scM0_0 (Memref.isWhole_whole _) scM0_1 (Memref.isWhole_whole _) ((hcond0_0 ⟨n, hb⟩).mpr h0) ((hcond0_1 ⟨n, hb⟩).mpr h0) (iblk m c 0 ⟨n, hb⟩) (iblk m c 1 ⟨n, hb⟩) (iblk m c 2 ⟨n, hb⟩) (iblk m c 3 ⟨n, hb⟩) (iblk m c 4 ⟨n, hb⟩) (iblk m c 5 ⟨n, hb⟩) (ix2 r l) = unit (fun e => (iblk m c 2 ⟨n, hb⟩ : Vec Ideal S128x4096 .f32) (ix2 e l)) r :=
  sA0_at c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) scM0_0 (Memref.isWhole_whole _) scM0_1 (Memref.isWhole_whole _) (iblk m c 0 ⟨n, hb⟩) (iblk m c 1 ⟨n, hb⟩) (iblk m c 2 ⟨n, hb⟩) (iblk m c 3 ⟨n, hb⟩) (iblk m c 4 ⟨n, hb⟩) (iblk m c 5 ⟨n, hb⟩) ((hcond0_0 ⟨n, hb⟩).mpr h0) ((hcond0_1 ⟨n, hb⟩).mpr h0) r l

theorem stAt_at (c : Dev nD) (n : ℕ) (hb : n < cfg0.N) (acc : Vec Ideal S1024x1 .f32 × Vec Ideal S1x1 .f32 × Vec Ideal S1x1 .f32 × Vec Ideal S128x4096 .f32 × Vec Ideal S1x4096 .f32) (h0 : n % 4 = 0) (r : Fin 128) (l : Fin 4096) :
    (Value.stAt0 m c n hb acc).2.2.2.1 (ix2 r l) = unit (fun e => (iblk m c 2 ⟨n, hb⟩ : Vec Ideal S128x4096 .f32) (ix2 e l)) r := by
  rw [first0 m c n hb acc h0, scr0_at m c n hb h0]

/-- What the first point leaves in the scratch buffer of the weights. -/
theorem first1 (c : Dev nD) (n : ℕ) (hb : n < cfg0.N) (acc : Vec Ideal S1024x1 .f32 × Vec Ideal S1x1 .f32 × Vec Ideal S1x1 .f32 × Vec Ideal S128x4096 .f32 × Vec Ideal S1x4096 .f32) (h0 : n % 4 = 0) :
    (Value.stAt0 m c n hb acc).2.2.2.2 = sout0_A_1 c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) scM0_0 (Memref.isWhole_whole _) scM0_1 (Memref.isWhole_whole _) ((hcond0_0 ⟨n, hb⟩).mpr h0) ((hcond0_1 ⟨n, hb⟩).mpr h0) (iblk m c 0 ⟨n, hb⟩) (iblk m c 1 ⟨n, hb⟩) (iblk m c 2 ⟨n, hb⟩) (iblk m c 3 ⟨n, hb⟩) (iblk m c 4 ⟨n, hb⟩) (iblk m c 5 ⟨n, hb⟩) := by
  rw [Value.stAt0_A m c ⟨n, hb⟩ acc h0 h0]

theorem scr1_at (c : Dev nD) (n : ℕ) (hb : n < cfg0.N) (h0 : n % 4 = 0) (r : Fin 1) (l : Fin 4096) :
    sout0_A_1 c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) scM0_0 (Memref.isWhole_whole _) scM0_1 (Memref.isWhole_whole _) ((hcond0_0 ⟨n, hb⟩).mpr h0) ((hcond0_1 ⟨n, hb⟩).mpr h0) (iblk m c 0 ⟨n, hb⟩) (iblk m c 1 ⟨n, hb⟩) (iblk m c 2 ⟨n, hb⟩) (iblk m c 3 ⟨n, hb⟩) (iblk m c 4 ⟨n, hb⟩) (iblk m c 5 ⟨n, hb⟩) (ix2 r l) = wt (fun e => (iblk m c 2 ⟨n, hb⟩ : Vec Ideal S128x4096 .f32) (ix2 e l)) :=
  sA1_at c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) scM0_0 (Memref.isWhole_whole _) scM0_1 (Memref.isWhole_whole _) (iblk m c 0 ⟨n, hb⟩) (iblk m c 1 ⟨n, hb⟩) (iblk m c 2 ⟨n, hb⟩) (iblk m c 3 ⟨n, hb⟩) (iblk m c 4 ⟨n, hb⟩) (iblk m c 5 ⟨n, hb⟩) ((hcond0_0 ⟨n, hb⟩).mpr h0) ((hcond0_1 ⟨n, hb⟩).mpr h0) r l

theorem stAw_at (c : Dev nD) (n : ℕ) (hb : n < cfg0.N) (acc : Vec Ideal S1024x1 .f32 × Vec Ideal S1x1 .f32 × Vec Ideal S1x1 .f32 × Vec Ideal S128x4096 .f32 × Vec Ideal S1x4096 .f32) (h0 : n % 4 = 0) (r : Fin 1) (l : Fin 4096) :
    (Value.stAt0 m c n hb acc).2.2.2.2 (ix2 r l) = wt (fun e => (iblk m c 2 ⟨n, hb⟩ : Vec Ideal S128x4096 .f32) (ix2 e l)) := by
  rw [first1 m c n hb acc h0, scr1_at m c n hb h0]

theorem after_zero (c : Dev nD) (h : 0 < cfg0.N) : After m c 0 h where
  dist r l i hi := by
    rw [Value.outsAt0_zero, stA6_at m c 0 h _ (Nat.zero_mod _), col_eq]
    exact dist_read m c ⟨0, h⟩ r i hi
  loss r l := by
    rw [Value.outsAt0_zero, stA7_at m c 0 h _ (Nat.zero_mod _), col_eq, wt_eq, loss_read m c ⟨0, h⟩ _ rfl, accum_zero]
  recall r l := by
    rw [Value.outsAt0_zero, stA8_at m c 0 h _ (Nat.zero_mod _), col_eq, rec_read m c ⟨0, h⟩ _ rfl, accum_zero]
  tn := by
    rw [Value.outsAt0_zero, ← col_eq m c ⟨0, h⟩]
    exact funext fun k => funext fun j => stAt_at m c 0 h _ (Nat.zero_mod _) k j
  w := by
    rw [Value.outsAt0_zero, ← wt_eq m c ⟨0, h⟩]
    exact funext fun j => stAw_at m c 0 h _ (Nat.zero_mod _) 0 j

theorem mod_ne (n : ℕ) (h : n + 1 < cfg0.N) : ¬(n + 1) % 4 = 0 := by
  have hN : n + 1 < 4 := lt_of_lt_of_eq h N_0
  omega

theorem carry1 (c : Dev nD) (n : ℕ) (h : n + 1 < cfg0.N) (acc) :
    (Value.stAt0 m c (n + 1) h acc).2.2.2.1 = acc.2.2.2.1 := by
  rw [Value.stAt0_B m c ⟨n + 1, h⟩ acc (mod_ne n h) (mod_ne n h)]
  dsimp only
  rfl

theorem carry2 (c : Dev nD) (n : ℕ) (h : n + 1 < cfg0.N) (acc) :
    (Value.stAt0 m c (n + 1) h acc).2.2.2.2 = acc.2.2.2.2 := by
  rw [Value.stAt0_B m c ⟨n + 1, h⟩ acc (mod_ne n h) (mod_ne n h)]
  dsimp only
  rfl

theorem after_succ (c : Dev nD) (n : ℕ) (h : n + 1 < cfg0.N) (ih : After m c n (Nat.lt_of_succ_lt h)) :
    After m c (n + 1) h where
  dist r l i hi := by
    rw [Value.outsAt0_succ, stB6_at m c (n + 1) h _ (mod_ne n h), ih.tn]
    exact dist_read m c ⟨n + 1, h⟩ r i hi
  loss r l := by
    rw [Value.outsAt0_succ, stB7_at m c (n + 1) h _ (mod_ne n h), ih.tn, ih.w, loss_read m c ⟨n + 1, h⟩ _ rfl, accum_succ, ← ih.loss r l]
  recall r l := by
    rw [Value.outsAt0_succ, stB8_at m c (n + 1) h _ (mod_ne n h), ih.tn, rec_read m c ⟨n + 1, h⟩ _ rfl, accum_succ, ← ih.recall r l]
  tn := by rw [Value.outsAt0_succ, carry1]; exact ih.tn
  w := by rw [Value.outsAt0_succ, carry2]; exact ih.w

theorem after_all (c : Dev nD) : ∀ (n : ℕ) (h : n < cfg0.N), After m c n h
  | 0, h => after_zero m c h
  | n + 1, h => after_succ m c n h (after_all c n (Nat.lt_of_succ_lt h))

/-- The distances the kernel returns. -/
theorem G6_at (c : Dev nD) (i : Fin 4096) (l : Fin 1) :
    Value.G6 m c (ix2 i l) = kDist (argX m c) (argY m c) (argQ m c) (argR m c) i := by
  have hi := i.isLt
  have hp : Value.pt6Of (ix2 i l) = i.val / 1024 := by
    show 1 * (i.val / 1024 - 0) + 1 * (l.val / 1 - 0) = _
    omega
  have hN : Value.pt6Of (ix2 i l) < cfg0.N := by rw [hp]; exact lt_of_lt_of_eq (by omega) N_0.symm
  unfold Value.G6
  rw [dif_pos hN, ← Value.outsAt0_sweep m c _ hN]
  have hl : Value.loc6Of (ix2 i l) = ix2 ⟨i.val % 1024, Nat.mod_lt _ (by decide)⟩ 0 := by
    funext a
    apply Fin.ext
    match a with
    | ⟨0, _⟩ => rfl
    | ⟨1, _⟩ => show l.val % 1 = 0; omega
  rw [hl]
  refine (after_all m c _ hN).dist _ _ i ?_
  show i.val = 1024 * Value.pt6Of (ix2 i l) + i.val % 1024
  rw [hp]; omega

/-- The loss the kernel returns. -/
theorem G7_at (c : Dev nD) (r l : Fin 1) : Value.G7 m c (ix2 r l)
    = accum (k0_pay1 (F := Ideal) (ix2 r l)) (kLoss (argX m c) (argY m c) (argQ m c) (argR m c)) 3 := by
  rw [Value.G7_last, ← Value.outsAt0_sweep m c 3 (lt_of_lt_of_eq (by decide) N_0.symm)]
  exact (after_all m c 3 _).loss r l

/-- The recall the kernel returns. -/
theorem G8_at (c : Dev nD) (r l : Fin 1) : Value.G8 m c (ix2 r l)
    = accum (k0_pay2 (F := Ideal) (ix2 r l)) (kRec (argX m c) (argY m c) (argQ m c)) 3 := by
  rw [Value.G8_last, ← Value.outsAt0_sweep m c 3 (lt_of_lt_of_eq (by decide) N_0.symm)]
  exact (after_all m c 3 _).recall r l

end Cert.Mine

end
-- ==== Proof.Lits.lean ====
/- The values of the literals the two programs carry. -/
module

public import proofs.«01_k».proof.Proof.Unit

@[expose] public section

noncomputable section

namespace Cert.Mine

open Idealize.ShloMosaic

theorem lit_zero : Ideal.ofBits .f32 0x00000000#32 = ((0 : ℝ) : EReal) := by
  simp [Ideal.ofBits, Ideal.ieee, -EReal.coe_mul]
theorem lit_one : Ideal.ofBits .f32 0x3F800000#32 = ((1 : ℝ) : EReal) := by
  simp [Ideal.ofBits, Ideal.ieee, -EReal.coe_mul]
  norm_num
theorem lit_neg_one : Ideal.ofBits .f32 0xBF800000#32 = ((-1 : ℝ) : EReal) := by
  simp [Ideal.ofBits, Ideal.ieee, -EReal.coe_mul]
  norm_num
theorem lit_two : Ideal.ofBits .f32 0x40000000#32 = ((2 : ℝ) : EReal) := by
  simp [Ideal.ofBits, Ideal.ieee, -EReal.coe_mul]
  norm_num
theorem lit_width : Ideal.ofBits .f32 0x45800000#32 = ((4096 : ℝ) : EReal) := by
  simp [Ideal.ofBits, Ideal.ieee, -EReal.coe_mul]
  norm_num
theorem lit_top : Ideal.ofBits .f32 0x7F800000#32 = ⊤ := by
  simp [Ideal.ofBits, Ideal.ieee, -EReal.coe_mul]
theorem lit_bot : Ideal.ofBits .f32 0xFF800000#32 = ⊥ := by
  simp [Ideal.ofBits, Ideal.ieee, -EReal.coe_mul]
theorem lit_margin : ∃ r : ℝ, Ideal.ofBits .f32 0x3E4CCCCD#32 = (r : EReal) :=
  ⟨_, by simp [Ideal.ofBits, Ideal.ieee, -EReal.coe_mul]; rfl⟩
theorem lit_low : ∃ r : ℝ, Ideal.ofBits .f32 0xF149F2CA#32 = (r : EReal) ∧ r ≤ -100 :=
  ⟨-(13234890 * 2 ^ 76), by simp [Ideal.ofBits, Ideal.ieee, -EReal.coe_mul], by norm_num⟩

end Cert.Mine

end
-- ==== Proof.RefDist.lean ====
/- The reference's distances between the columns: real numbers, the root of 2 - 2 of an inner product of normalised columns. -/
module

public import proofs.«01_k».proof.Proof.Gen.ReferenceIdeal.Read
public import proofs.«01_k».proof.Proof.Lits
public import Idealize.ShloMosaic.Lib.Pointwise

@[expose] public section

set_option maxRecDepth 16384

noncomputable section

namespace Cert.Mine

open Idealize.ShloMosaic Cert.ReferenceIdeal Cert.ReferenceIdeal.Read

/-- A column of a descriptor array. -/
def col (x : Vec Ideal S128x4096 .f32) (i : Fin 4096) (e : Fin 128) : EReal := x (ix2 e i)

/-- The distance of two columns. -/
def dd (a b : Fin 128 → EReal) : ℝ := Real.sqrt (2 - 2 * gr a b)

theorem v7_at (x0 : Vec Ideal S128x4096 .f32) (k : Fin 128) (i : Fin 4096) :
    val_main_v7 (F := Ideal) x0 (ix2 k i) = unit (col x0 i) k := by
  have e : ∀ k' : Fin 128, idx_main_v1 (idx_main_v2 (idx_main_v6 (ix2 k i))) k' = ix2 k' i := fun k' => by
    funext a; match a with | ⟨0, _⟩ => rfl | ⟨1, _⟩ => rfl
  simp only [val_main_v7_apply, val_main_v6_apply, val_main_v5_apply, val_main_v3_apply, val_main_v2_apply, val_main_v1_apply,
    val_main_v0_apply, val_main_v4_apply, val_main_cst_0_apply, val_main_cst_apply, e]
  unfold unit nrm tiny col
  rw [Ideal.ofBits_def, lit_zero, EReal.coe_zero, zero_add]
  rfl

theorem v15_at (x1 : Vec Ideal S128x4096 .f32) (k : Fin 128) (i : Fin 4096) :
    val_main_v15 (F := Ideal) x1 (ix2 k i) = unit (col x1 i) k := by
  have e : ∀ k' : Fin 128, idx_main_v9 (idx_main_v10 (idx_main_v14 (ix2 k i))) k' = ix2 k' i := fun k' => by
    funext a; match a with | ⟨0, _⟩ => rfl | ⟨1, _⟩ => rfl
  simp only [val_main_v15_apply, val_main_v14_apply, val_main_v13_apply, val_main_v11_apply, val_main_v10_apply, val_main_v9_apply,
    val_main_v8_apply, val_main_v12_apply, val_main_cst_2_apply, val_main_cst_1_apply, e]
  unfold unit nrm tiny col
  rw [Ideal.ofBits_def, lit_zero, EReal.coe_zero, zero_add]
  rfl

theorem v17_at (x0 x1 : Vec Ideal S128x4096 .f32) (i j : Fin 4096) :
    val_main_v17 (F := Ideal) x0 x1 (ix2 i j) = ((gr (col x0 i) (col x1 j) : ℝ) : EReal) := by
  rw [val_main_v17_apply, ← gram_eq]
  refine Finset.sum_congr rfl fun k _ => ?_
  have e1 : idx_main_v16 (lidx_main_v17 (ix2 i j) k) = ix2 k i := by
    funext a; match a with | ⟨0, _⟩ => rfl | ⟨1, _⟩ => rfl
  have e2 : ridx_main_v17 (ix2 i j) k = ix2 k j := by
    funext a; match a with | ⟨0, _⟩ => rfl | ⟨1, _⟩ => rfl
  rw [val_main_v16_apply, e1, e2, v7_at, v15_at]

/-- The reference's distance of source column `i` and target column `j`. -/
theorem v23_at (x0 x1 : Vec Ideal S128x4096 .f32) (i j : Fin 4096) :
    val_main_v23 (F := Ideal) x0 x1 (ix2 i j) = ((dd (col x0 i) (col x1 j) : ℝ) : EReal) := by
  have hg := gr_mem (col x0 i) (col x1 j)
  simp only [val_main_v23_apply, val_main_v22_apply, val_main_v21_apply, val_main_v20_apply, val_main_v19_apply, val_main_v18_apply,
    val_main_call0_v4_apply, val_main_call0_v3_apply, val_main_call0_v2_apply, val_main_call0_v1_apply, val_main_call0_v0_apply,
    val_main_cst_3_apply, val_main_cst_4_apply, val_main_cst_5_apply, val_main_cst_6_apply, v17_at, Ideal.ofBits_def, lit_two, lit_one, lit_neg_one]
  show Ideal.sqrt (((2 : ℝ) : EReal) - ((2 : ℝ) : EReal) * min ((1 : ℝ) : EReal) (max ((-1 : ℝ) : EReal) ((gr (col x0 i) (col x1 j) : ℝ) : EReal))) = _
  rw [max_eq_right (EReal.coe_le_coe_iff.mpr hg.1), min_eq_right (EReal.coe_le_coe_iff.mpr hg.2), ← EReal.coe_mul, ← EReal.coe_sub,
    sqrt_coe _ (by linarith [hg.2])]
  rfl

end Cert.Mine

end
-- ==== Proof.RefSort.lean ====
/- The reference's sort of each query's distances: one rearrangement of the targets, met by the ranks' target numbers,
   by the sorted distances and by the points gathered at the target numbers. -/
module

public import proofs.«01_k».proof.Proof.RefDist
public import Idealize.ShloMosaic.Lib.SortFacts

@[expose] public section

set_option maxRecDepth 16384

noncomputable section

namespace Cert.Mine

open Idealize.ShloMosaic Cert.ReferenceIdeal Cert.ReferenceIdeal.Read

/-- The distance between query `i` and target `j` comes strictly before that to `j'`. -/
def nearer (x0 x1 : Vec Ideal S128x4096 .f32) (i j j' : Fin 4096) : Bool :=
  decide (dd (col x0 i) (col x1 j) < dd (col x0 i) (col x1 j'))

/-- The target at rank `r` of query `i`. -/
def ranked (x0 x1 : Vec Ideal S128x4096 .f32) (i : Fin 4096) : Fin 4096 → Fin 4096 := sortedFrom (nearer x0 x1 i)

theorem ranked_surj (x0 x1 : Vec Ideal S128x4096 .f32) (i : Fin 4096) : Function.Surjective (ranked x0 x1 i) :=
  sortedFrom_surjective _

theorem ranked_inj (x0 x1 : Vec Ideal S128x4096 .f32) (i : Fin 4096) : Function.Injective (ranked x0 x1 i) :=
  sortedFrom_injective _

/-- A later rank is never nearer. -/
theorem ranked_le (x0 x1 : Vec Ideal S128x4096 .f32) (i r r' : Fin 4096) (h : r < r') :
    dd (col x0 i) (col x1 (ranked x0 x1 i r)) ≤ dd (col x0 i) (col x1 (ranked x0 x1 i r')) := by
  have key := sortedFrom_noInversion (nearer x0 x1 i) (nearer x0 x1 i)
    (fun a b h => by unfold nearer at *; simp only [decide_eq_true_eq, decide_eq_false_iff_not, not_lt] at *; exact h.le)
    (fun a b h => h)
    (fun a b c h1 h2 => by unfold nearer at *; simp only [decide_eq_false_iff_not, not_lt] at *; exact h2.trans h1) r r' h
  exact not_lt.mp (of_decide_eq_false key)

/-- Replacing an equal element changes nothing. -/
theorem select_self (x z : EReal) : Scalar.select (BitVec.ofBool (decide (x = z))) z x = x := by
  by_cases h : x = z <;> simp [Scalar.select, h]

theorem select_ne (x a b : EReal) : Scalar.select (BitVec.ofBool (decide (x ≠ x))) a b = b := by
  simp [Scalar.select]

theorem order_pair (x y : EReal) (a b : BitVec 32) :
    comparator_f32_i32_d1 (F := Ideal) (x, a) (y, b) = BitVec.ofBool (decide (x < y)) := by
  show Ideal.cmp .olt
    (Scalar.select (BitVec.ofBool (decide (x ≠ x))) (Ideal.ofBits .f32 0x7FC00000#32) (Scalar.select (BitVec.ofBool (decide (x = Ideal.ofBits .f32 0x00000000#32))) (Ideal.ofBits .f32 0x00000000#32) x))
    (Scalar.select (BitVec.ofBool (decide (y ≠ y))) (Ideal.ofBits .f32 0x7FC00000#32) (Scalar.select (BitVec.ofBool (decide (y = Ideal.ofBits .f32 0x00000000#32))) (Ideal.ofBits .f32 0x00000000#32) y)) = _
  rw [select_ne, select_ne, select_self, select_self]
  rfl

theorem order_one (x y : EReal) :
    comparator_f32_d1 (F := Ideal) x y = BitVec.ofBool (decide (x < y)) := order_pair x y 0#32 0#32

section Generic
variable {N : ℕ} {α β : Type}

theorem along_at (i r : Fin N) (k : Fin N) : Shape.Idx.along (s := ⟨2, ![N, N]⟩) (ix2 i r) (1 : Fin 2) k = ix2 i k := by
  funext a
  match a with
  | ⟨0, _⟩ => rfl
  | ⟨1, _⟩ => rfl

theorem along_fun (i r : Fin N) : (fun k : Fin N => Shape.Idx.along (s := ⟨2, ![N, N]⟩) (ix2 i r) (1 : Fin 2) k) = fun k => ix2 i k :=
  funext (along_at i r)

/-- A pair sort along the second axis, read at an index: the row rearranged. -/
theorem sort2_at (cmp : α × β → α × β → BitVec 1) (x : (⟨2, ![N, N]⟩ : Shape).Idx → α) (y : (⟨2, ![N, N]⟩ : Shape).Idx → β)
    (i r : Fin N) : (Host.sort2 ⟨2, ![N, N]⟩ 1 cmp x y).2 (ix2 i r)
      = y (ix2 i (sortedFrom (fun k k' => cmp (x (ix2 i k), y (ix2 i k)) (x (ix2 i k'), y (ix2 i k')) == 1#1) r)) := by
  unfold Host.sort2
  rw [dif_pos (show 1 < (⟨2, ![N, N]⟩ : Shape).rank from Nat.one_lt_two)]
  exact congrArg (fun e : Fin N → (⟨2, ![N, N]⟩ : Shape).Idx =>
    y (e (sortedFrom (fun k k' => cmp (x (e k), y (e k)) (x (e k'), y (e k')) == 1#1) r))) (along_fun i r)

/-- A sort along the second axis, read at an index. -/
theorem sort1_at (cmp : α → α → BitVec 1) (x : (⟨2, ![N, N]⟩ : Shape).Idx → α)
    (i r : Fin N) : Host.sort ⟨2, ![N, N]⟩ 1 cmp x (ix2 i r)
      = x (ix2 i (sortedFrom (fun k k' => cmp (x (ix2 i k)) (x (ix2 i k')) == 1#1) r)) := by
  unfold Host.sort
  rw [dif_pos (show 1 < (⟨2, ![N, N]⟩ : Shape).rank from Nat.one_lt_two)]
  exact congrArg (fun e : Fin N → (⟨2, ![N, N]⟩ : Shape).Idx =>
    x (e (sortedFrom (fun k k' => cmp (x (e k)) (x (e k')) == 1#1) r))) (along_fun i r)

end Generic

theorem before_eq (x0 x1 : Vec Ideal S128x4096 .f32) (i k k' : Fin 4096) :
    (BitVec.ofBool (decide (val_main_v23 (F := Ideal) x0 x1 (ix2 i k) < val_main_v23 (F := Ideal) x0 x1 (ix2 i k'))) == 1#1)
      = nearer x0 x1 i k k' := by
  rw [v23_at, v23_at]
  unfold nearer
  by_cases h : dd (col x0 i) (col x1 k) < dd (col x0 i) (col x1 k') <;> simp [h]

/-- The two comparators read on any contents. -/
theorem order2_at (x : (⟨2, ![4096, 4096]⟩ : Shape).Idx → EReal) (y : (⟨2, ![4096, 4096]⟩ : Shape).Idx → BitVec 32) (i r : Fin 4096) :
    (Host.sort2 ⟨2, ![4096, 4096]⟩ 1 (comparator_f32_i32_d1 (F := Ideal)) x y).2 (ix2 i r)
      = y (ix2 i (sortedFrom (fun k k' => BitVec.ofBool (decide (x (ix2 i k) < x (ix2 i k'))) == 1#1) r)) := by
  refine (sort2_at (N := 4096) (α := EReal) (comparator_f32_i32_d1 (F := Ideal)) x y i r).trans ?_
  have e : (fun k k' : Fin 4096 => comparator_f32_i32_d1 (F := Ideal) (x (ix2 i k), y (ix2 i k)) (x (ix2 i k'), y (ix2 i k')) == 1#1)
      = fun k k' => BitVec.ofBool (decide (x (ix2 i k) < x (ix2 i k'))) == 1#1 :=
    funext fun k => funext fun k' => by rw [order_pair]
  exact congrArg (fun R => y (ix2 i (sortedFrom R r))) e

theorem order1_at (x : (⟨2, ![4096, 4096]⟩ : Shape).Idx → EReal) (i r : Fin 4096) :
    Host.sort ⟨2, ![4096, 4096]⟩ 1 (comparator_f32_d1 (F := Ideal)) x (ix2 i r)
      = x (ix2 i (sortedFrom (fun k k' => BitVec.ofBool (decide (x (ix2 i k) < x (ix2 i k'))) == 1#1) r)) := by
  refine (sort1_at (N := 4096) (α := EReal) (comparator_f32_d1 (F := Ideal)) x i r).trans ?_
  have e : (fun k k' : Fin 4096 => comparator_f32_d1 (F := Ideal) (x (ix2 i k)) (x (ix2 i k')) == 1#1)
      = fun k k' => BitVec.ofBool (decide (x (ix2 i k) < x (ix2 i k'))) == 1#1 :=
    funext fun k => funext fun k' => by rw [order_one]
  exact congrArg (fun R => x (ix2 i (sortedFrom R r))) e

theorem before_fun (x0 x1 : Vec Ideal S128x4096 .f32) (i : Fin 4096) :
    (fun k k' : Fin 4096 => BitVec.ofBool (decide (val_main_v23 (F := Ideal) x0 x1 (ix2 i k) < val_main_v23 (F := Ideal) x0 x1 (ix2 i k'))) == 1#1)
      = nearer x0 x1 i :=
  funext fun k => funext fun k' => before_eq x0 x1 i k k'

/-- The target number at a rank. -/
theorem v24_at (x0 x1 : Vec Ideal S128x4096 .f32) (i r : Fin 4096) :
    val_main_v24 (F := Ideal) x0 x1 (ix2 i r) = BitVec.ofNat 32 (ranked x0 x1 i r).val :=
  (order2_at (val_main_v23 (F := Ideal) x0 x1) (val_main_call1_v0 (F := Ideal)) i r).trans
    ((congrArg (fun R => val_main_call1_v0 (F := Ideal) (ix2 i (sortedFrom R r))) (before_fun x0 x1 i)).trans
      (val_main_call1_v0_apply _))

/-- The distance at a rank. -/
theorem v25_at (x0 x1 : Vec Ideal S128x4096 .f32) (i r : Fin 4096) :
    val_main_v25 (F := Ideal) x0 x1 (ix2 i r) = ((dd (col x0 i) (col x1 (ranked x0 x1 i r)) : ℝ) : EReal) :=
  (order1_at (val_main_v23 (F := Ideal) x0 x1) i r).trans
    ((congrArg (fun R => val_main_v23 (F := Ideal) x0 x1 (ix2 i (sortedFrom R r))) (before_fun x0 x1 i)).trans
      (v23_at x0 x1 i _))

theorem v26_at (x0 x1 : Vec Ideal S128x4096 .f32) (r i : Fin 4096) :
    val_main_v26 (F := Ideal) x0 x1 (ix2 r i) = BitVec.ofNat 32 (ranked x0 x1 i r).val := by
  have e : idx_main_v26 (ix2 r i) = ix2 i r := by
    funext a; match a with | ⟨0, _⟩ => rfl | ⟨1, _⟩ => rfl
  rw [val_main_v26_apply, e, v24_at]

end Cert.Mine

end
-- ==== Proof.RefTake.lean ====
/- The points the reference gathers at the sorted target numbers. -/
module

public import proofs.«01_k».proof.Proof.RefSort
public import Idealize.ShloMosaic.Lib.ValueIdx

@[expose] public section

set_option maxRecDepth 16384

noncomputable section

namespace Cert.Mine

open Idealize.ShloMosaic Cert.ReferenceIdeal Cert.ReferenceIdeal.Read

/-- A number below 4096 is not negative as a word, so it is not wrapped round. -/
theorem wrap_eq (n : ℕ) (h : n < 4096) :
    Scalar.select (IntOp.cmpi .slt (BitVec.ofNat 32 n) 0#32) (IntOp.addi (BitVec.ofNat 32 n) 4096#32) (BitVec.ofNat 32 n)
      = BitVec.ofNat 32 n := by
  have hi : (BitVec.ofNat 32 n).toInt = n := by
    rw [BitVec.toInt_eq_toNat_of_lt] <;> simp [Nat.mod_eq_of_lt (show n < 4294967296 by omega)] ; omega
  have : IntOp.cmpi .slt (BitVec.ofNat 32 n) 0#32 = 0#1 := by
    have hn : ¬((n : ℤ) < 0) := by omega
    simp [IntOp.cmpi, BitVec.slt, hi, hn]
  rw [this]
  rfl

/-- The signed reading of a number below 4096, clamped to the width. -/
theorem clamp_eq (n : ℕ) (h : n < 4096) : min (BitVec.ofNat 32 n).toInt.toNat (4096 - 1) = n := by
  have hi : (BitVec.ofNat 32 n).toInt = n := by
    rw [BitVec.toInt_eq_toNat_of_lt] <;> simp [Nat.mod_eq_of_lt (show n < 4294967296 by omega)] ; omega
  rw [hi]; omega

theorem v28_at (x2 : IVec S2x4096 32) (j : Fin 4096) : val_main_v28 (F := Ideal) x2 (ix1 j) = x2 (ix2 0 j) := by
  rw [val_main_v28_apply, val_main_v27_apply]
  congr 1
  funext a
  match a with
  | ⟨0, _⟩ => rfl
  | ⟨1, _⟩ => apply Fin.ext; have := j.isLt; simp [ix1]

theorem v37_at (x2 : IVec S2x4096 32) (j : Fin 4096) : val_main_v37 (F := Ideal) x2 (ix1 j) = x2 (ix2 1 j) := by
  rw [val_main_v37_apply, val_main_v36_apply]
  congr 1
  funext a
  match a with
  | ⟨0, _⟩ => rfl
  | ⟨1, _⟩ => apply Fin.ext; have := j.isLt; simp [ix1]

theorem v34_at (x0 x1 : Vec Ideal S128x4096 .f32) (r i : Fin 4096) (y : S4096x4096x1.Idx) (hy : idx_main_v34 y = ix2 r i) :
    val_main_v34 (F := Ideal) x0 x1 y = BitVec.ofNat 32 (ranked x0 x1 i r).val := by
  rw [val_main_v34_apply, hy, val_main_v33_apply, val_main_v30_apply, val_main_v32_apply, val_main_v29_apply, val_main_v31_apply,
    val_main_c_apply, val_main_c_7_apply, v26_at]
  exact wrap_eq _ (ranked x0 x1 i r).isLt

theorem v43_at (x0 x1 : Vec Ideal S128x4096 .f32) (r i : Fin 4096) (y : S4096x4096x1.Idx) (hy : idx_main_v43 y = ix2 r i) :
    val_main_v43 (F := Ideal) x0 x1 y = BitVec.ofNat 32 (ranked x0 x1 i r).val := by
  rw [val_main_v43_apply, hy, val_main_v42_apply, val_main_v39_apply, val_main_v41_apply, val_main_v38_apply, val_main_v40_apply,
    val_main_c_8_apply, val_main_c_9_apply, v26_at]
  exact wrap_eq _ (ranked x0 x1 i r).isLt

/-- The horizontal place of the target at a rank. -/
theorem v35_at (x0 x1 : Vec Ideal S128x4096 .f32) (x2 : IVec S2x4096 32) (r i : Fin 4096) :
    val_main_v35 (F := Ideal) x0 x1 x2 (ix2 r i) = x2 (ix2 0 (ranked x0 x1 i r)) := by
  have hj : (⟨min (val_main_v34 (F := Ideal) x0 x1 (ValueIdx.takeIdx (ix2 r i))).toInt.toNat (4096 - 1), by omega⟩ : Fin 4096)
      = ranked x0 x1 i r := by
    apply Fin.ext
    dsimp only
    rw [v34_at x0 x1 r i _ (by funext a; match a with | ⟨0, _⟩ => rfl | ⟨1, _⟩ => rfl), clamp_eq _ (ranked x0 x1 i r).isLt]
  exact (ValueIdx.gather_take_apply (N := 4096) (R := 4096) (C := 4096) (by decide) gather_S4096_S4096x4096x1_S4096x4096_n_0_n_n_0_2_1.wf
    (val_main_v28 (F := Ideal) x2) (val_main_v34 (F := Ideal) x0 x1) (ix2 r i)).trans
    ((v28_at x2 _).trans (congrArg (fun j => x2 (ix2 0 j)) hj))

/-- The vertical place of the target at a rank. -/
theorem v44_at (x0 x1 : Vec Ideal S128x4096 .f32) (x2 : IVec S2x4096 32) (r i : Fin 4096) :
    val_main_v44 (F := Ideal) x0 x1 x2 (ix2 r i) = x2 (ix2 1 (ranked x0 x1 i r)) := by
  have hj : (⟨min (val_main_v43 (F := Ideal) x0 x1 (ValueIdx.takeIdx (ix2 r i))).toInt.toNat (4096 - 1), by omega⟩ : Fin 4096)
      = ranked x0 x1 i r := by
    apply Fin.ext
    dsimp only
    rw [v43_at x0 x1 r i _ (by funext a; match a with | ⟨0, _⟩ => rfl | ⟨1, _⟩ => rfl), clamp_eq _ (ranked x0 x1 i r).isLt]
  exact (ValueIdx.gather_take_apply (N := 4096) (R := 4096) (C := 4096) (by decide) gather_S4096_S4096x4096x1_S4096x4096_n_0_n_n_0_2_1.wf
    (val_main_v37 (F := Ideal) x2) (val_main_v43 (F := Ideal) x0 x1) (ix2 r i)).trans
    ((v37_at x2 _).trans (congrArg (fun j => x2 (ix2 1 j)) hj))

end Cert.Mine

end
-- ==== Proof.RefMin.lean ====
/- The reference's masked distances and their minimum over the ranks: the rearrangement does not change the set of
   values, so it is the minimum over the targets. -/
module

public import proofs.«01_k».proof.Proof.RefTake

@[expose] public section

set_option maxRecDepth 16384

noncomputable section

namespace Cert.Mine

open Idealize.ShloMosaic Cert.ReferenceIdeal Cert.ReferenceIdeal.Read

/-- The least of finitely many values from the greatest element. -/
theorem fold_min_least {n : ℕ} (f : Fin (n + 1) → EReal) : IsLeast (Set.range f) (Finset.univ.fold min ⊤ f) := by
  obtain ⟨j, -, hj⟩ := Finset.exists_min_image Finset.univ f ⟨0, Finset.mem_univ _⟩
  have h1 : Finset.univ.fold min ⊤ f = f j :=
    le_antisymm ((Finset.fold_min_le _).mpr (Or.inr ⟨j, Finset.mem_univ _, le_rfl⟩))
      ((Finset.le_fold_min _).mpr ⟨le_top, hj⟩)
  rw [h1]
  exact ⟨⟨j, rfl⟩, fun y ⟨k, hk⟩ => hk ▸ hj k (Finset.mem_univ _)⟩

/-- The greatest of finitely many values from the least element. -/
theorem fold_max_greatest {n : ℕ} (f : Fin (n + 1) → EReal) : IsGreatest (Set.range f) (Finset.univ.fold max ⊥ f) := by
  obtain ⟨j, -, hj⟩ := Finset.exists_max_image Finset.univ f ⟨0, Finset.mem_univ _⟩
  have h1 : Finset.univ.fold max ⊥ f = f j :=
    le_antisymm ((Finset.fold_max_le _).mpr ⟨bot_le, hj⟩)
      ((Finset.le_fold_max _).mpr (Or.inr ⟨j, Finset.mem_univ _, le_rfl⟩))
  rw [h1]
  exact ⟨⟨j, rfl⟩, fun y ⟨k, hk⟩ => hk ▸ hj k (Finset.mem_univ _)⟩

/-- Two places lie within the relaxation, as the reference tests it. -/
def within (R a b : BitVec 32) : BitVec 1 := IntOp.cmpi .sle (IntOp.absi (IntOp.subi b a)) R

/-- Target `j` counts as a correct match of query `i`. -/
def okay (x2 : IVec S2x4096 32) (x3 : IVec S_ 32) (i j : Fin 4096) : BitVec 1 :=
  IntOp.andi (within (x3 ix0) (x2 (ix2 0 i)) (x2 (ix2 0 j))) (within (x3 ix0) (x2 (ix2 1 i)) (x2 (ix2 1 j)))

/-- The distance with the correct matches put at 2. -/
def inc (x0 x1 : Vec Ideal S128x4096 .f32) (x2 : IVec S2x4096 32) (x3 : IVec S_ 32) (i j : Fin 4096) : EReal :=
  Scalar.select (okay x2 x3 i j) ((2 : ℝ) : EReal) ((dd (col x0 i) (col x1 j) : ℝ) : EReal)

theorem v46_at (x2 : IVec S2x4096 32) (j : Fin 4096) : val_main_v46 (F := Ideal) x2 (ix1 j) = x2 (ix2 0 j) := by
  rw [val_main_v46_apply, val_main_v45_apply]
  congr 1
  funext a
  match a with
  | ⟨0, _⟩ => rfl
  | ⟨1, _⟩ => apply Fin.ext; have := j.isLt; simp [ix1]

theorem v48_at (x2 : IVec S2x4096 32) (j : Fin 4096) : val_main_v48 (F := Ideal) x2 (ix1 j) = x2 (ix2 1 j) := by
  rw [val_main_v48_apply, val_main_v47_apply]
  congr 1
  funext a
  match a with
  | ⟨0, _⟩ => rfl
  | ⟨1, _⟩ => apply Fin.ext; have := j.isLt; simp [ix1]

theorem v77_at (x0 x1 : Vec Ideal S128x4096 .f32) (x2 : IVec S2x4096 32) (x3 : IVec S_ 32) (r i : Fin 4096) :
    val_main_v77 (F := Ideal) x0 x1 x2 x3 (ix2 r i) = okay x2 x3 i (ranked x0 x1 i r) := by
  have e1 : idx_main_v65 (idx_main_v66 (ix2 r i)) = ix1 i := by
    funext a; match a with | ⟨0, _⟩ => rfl
  have e2 : idx_main_v71 (idx_main_v72 (ix2 r i)) = ix1 i := by
    funext a; match a with | ⟨0, _⟩ => rfl
  have e3 : idx_main_v69 (ix2 r i) = ix0 := funext fun a => a.elim0
  have e4 : idx_main_v75 (ix2 r i) = ix0 := funext fun a => a.elim0
  rw [val_main_v77_apply, val_main_v70_apply, val_main_v76_apply, val_main_v68_apply, val_main_v67_apply, val_main_v66_apply,
    val_main_v65_apply, val_main_v69_apply, val_main_v74_apply, val_main_v73_apply, val_main_v72_apply, val_main_v71_apply,
    val_main_v75_apply, e1, e2, e3, e4, v46_at, v48_at, v35_at, v44_at]
  rfl

/-- The masked distance at a rank. -/
theorem v79_at (x0 x1 : Vec Ideal S128x4096 .f32) (x2 : IVec S2x4096 32) (x3 : IVec S_ 32) (r i : Fin 4096) :
    val_main_v79 (F := Ideal) x0 x1 x2 x3 (ix2 r i) = inc x0 x1 x2 x3 i (ranked x0 x1 i r) := by
  have e : idx_main_v78 (ix2 r i) = ix2 i r := by
    funext a; match a with | ⟨0, _⟩ => rfl | ⟨1, _⟩ => rfl
  rw [val_main_v79_apply, v77_at, val_main_call3_v0_apply, val_main_cst_14_apply, val_main_v78_apply, e, v25_at, Ideal.ofBits_def, lit_two]
  rfl

theorem red0 : S4096x4096.Reduces [0] S4096 := by decide

/-- The minimum over the ranks. -/
theorem v80_fold (x0 x1 : Vec Ideal S128x4096 .f32) (x2 : IVec S2x4096 32) (x3 : IVec S_ 32) (i : Fin 4096) :
    val_main_v80 (F := Ideal) x0 x1 x2 x3 (ix1 i)
      = (Finset.univ : Finset (Fin 4096)).fold min ⊤ (fun r => inc x0 x1 x2 x3 i (ranked x0 x1 i r)) := by
  have e : ∀ r : Fin 4096, red0.lift (ix1 i) r = ix2 r i := fun r => by
    funext a; match a with | ⟨0, _⟩ => rfl | ⟨1, _⟩ => rfl
  have h := Host.reduce_eq_fold_single (a := (0 : Fin 2)) (FloatOps.minimumf (F := Ideal) (φ := .f32)) (val_main_v79 (F := Ideal) x0 x1 x2 x3)
    (val_main_cst_15 (F := Ideal)) Gen.reducesTo_S4096x4096_S4096_d0 red0 Gen.h_S_ (ix1 i)
  unfold val_main_v80
  refine h.trans ?_
  have e2 : (val_main_v79 (F := Ideal) x0 x1 x2 x3 ∘ red0.lift (ix1 i)) = fun r => inc x0 x1 x2 x3 i (ranked x0 x1 i r) :=
    funext fun r => (congrArg (val_main_v79 (F := Ideal) x0 x1 x2 x3) (e r)).trans (v79_at x0 x1 x2 x3 r i)
  rw [e2, val_main_cst_15_apply, Ideal.ofBits_def, lit_top]
  rfl

/-- The reference's third result is the least masked distance of the query over the targets. -/
theorem v80_least (x0 x1 : Vec Ideal S128x4096 .f32) (x2 : IVec S2x4096 32) (x3 : IVec S_ 32) (i : Fin 4096) :
    IsLeast (Set.range (inc x0 x1 x2 x3 i)) (val_main_v80 (F := Ideal) x0 x1 x2 x3 (ix1 i)) := by
  rw [v80_fold]
  have h := fold_min_least (n := 4095) (fun r => inc x0 x1 x2 x3 i (ranked x0 x1 i r))
  have hr : Set.range (fun r => inc x0 x1 x2 x3 i (ranked x0 x1 i r)) = Set.range (inc x0 x1 x2 x3 i) :=
    (ranked_surj x0 x1 i).range_comp (inc x0 x1 x2 x3 i)
  rw [hr] at h
  exact h

end Cert.Mine

end
-- ==== Proof.Near.lean ====
/- The kernel's one unsigned comparison decides whether two coordinates lie within the relaxation, as the reference's
   absolute value does, for coordinates of the image and a relaxation that is not negative. -/
module

public import proofs.«01_k».proof.Proof.KernelPts
public import proofs.«01_k».proof.Proof.RefMin

@[expose] public section

set_option maxRecDepth 16384

noncomputable section

namespace Cert.Mine

open Idealize.ShloMosaic

/-- A word from 0 up to a bound is a natural number below the bound. -/
theorem nat_of_range (a : BitVec 32) (n : ℕ) (h0 : (0#32).sle a = true) (h1 : a.slt (BitVec.ofNat 32 n) = true) (hn : n < 2 ^ 31) :
    a.toNat < n := by
  rw [BitVec.sle, decide_eq_true_eq] at h0
  rw [BitVec.slt, decide_eq_true_eq] at h1
  simp only [BitVec.toInt_eq_toNat_cond] at h0 h1
  simp only [BitVec.toNat_ofNat] at h0 h1
  have := a.isLt
  have e : n % 2 ^ 32 = n := Nat.mod_eq_of_lt (by omega)
  rw [e] at h1
  by_cases c1 : 2 * a.toNat < 2 ^ 32
  · rw [if_pos c1, if_pos (by omega)] at h1
    omega
  · rw [if_pos (by omega), if_neg c1] at h0
    omega

/-- A word that is not negative is a natural number below half the words. -/
theorem nat_of_nonneg (a : BitVec 32) (h0 : (0#32).sle a = true) : a.toNat < 2 ^ 31 := by
  rw [BitVec.sle, decide_eq_true_eq] at h0
  simp only [BitVec.toInt_eq_toNat_cond] at h0
  simp only [BitVec.toNat_ofNat] at h0
  have := a.isLt
  by_contra c
  rw [if_pos (by omega), if_neg (by omega)] at h0
  omega

/-- The kernel's test of a coordinate, in natural numbers. -/
theorem near_nat (R a b : BitVec 32) (ha : a.toNat < 512) (hb : b.toNat < 512) (hR : R.toNat < 2 ^ 31) :
    near R a b = BitVec.ofBool (decide (b.toNat ≤ a.toNat + R.toNat ∧ a.toNat ≤ b.toNat + R.toNat)) := by
  have h : (b - (a - R)).ule (2#32 * R) = decide (b.toNat ≤ a.toNat + R.toNat ∧ a.toNat ≤ b.toNat + R.toNat) := by
    rw [BitVec.ule]
    refine decide_eq_decide.mpr ?_
    rw [BitVec.toNat_sub, BitVec.toNat_sub, BitVec.toNat_mul, BitVec.toNat_ofNat]
    omega
  exact congrArg BitVec.ofBool h

/-- The reference's test of a coordinate, in natural numbers. -/
theorem within_nat (R a b : BitVec 32) (ha : a.toNat < 512) (hb : b.toNat < 512) (hR : R.toNat < 2 ^ 31) :
    within R a b = BitVec.ofBool (decide (b.toNat ≤ a.toNat + R.toNat ∧ a.toNat ≤ b.toNat + R.toNat)) := by
  have e : (if (b - a).msb then -(b - a) else b - a).toNat
      = if b.toNat < a.toNat then a.toNat - b.toNat else b.toNat - a.toNat := by
    rw [BitVec.msb_eq_decide, BitVec.toNat_sub]
    by_cases hlt : b.toNat < a.toNat
    · rw [if_pos hlt, if_pos (by rw [decide_eq_true_eq]; omega), BitVec.toNat_neg, BitVec.toNat_sub]
      omega
    · rw [if_neg hlt, if_neg (by rw [decide_eq_true_eq]; omega), BitVec.toNat_sub]
      omega
  have h : (if (b - a).msb then -(b - a) else b - a).sle R
      = decide (b.toNat ≤ a.toNat + R.toNat ∧ a.toNat ≤ b.toNat + R.toNat) := by
    rw [BitVec.sle]
    refine decide_eq_decide.mpr ?_
    rw [BitVec.toInt_eq_toNat_cond, BitVec.toInt_eq_toNat_cond, e]
    by_cases hlt : b.toNat < a.toNat
    · rw [if_pos hlt, if_pos (by omega), if_pos (by omega)]
      omega
    · rw [if_neg hlt, if_pos (by omega), if_pos (by omega)]
      omega
  exact congrArg BitVec.ofBool h

/-- The two tests agree. -/
theorem near_eq (R a b : BitVec 32) (ha : a.toNat < 512) (hb : b.toNat < 512) (hR : R.toNat < 2 ^ 31) :
    near R a b = within R a b := by rw [near_nat R a b ha hb hR, within_nat R a b ha hb hR]

end Cert.Mine

end
-- ==== Proof.Dist.lean ====
/- The kernel's distance of a source column is the least of the reference's masked distances. -/
module

public import proofs.«01_k».proof.Proof.Near

@[expose] public section

set_option maxRecDepth 16384

noncomputable section

namespace Cert.Mine

open Idealize.ShloMosaic Cert.ReferenceIdeal.Read
open Cert.ReferenceIdeal (S128x4096 S2x4096 S_)

/-- The points lie in the range they are drawn from, and the relaxation is not negative. -/
structure Drawn (x2 : IVec S2x4096 32) (x3 : IVec S_ 32) : Prop where
  pt : ∀ d j, (x2 (ix2 d j)).toNat < 512
  rel : (x3 ix0).toNat < 2 ^ 31

/-- The similarity, or -1 at a correct match, as a real number. -/
def mr (x0 x1 : Vec Ideal S128x4096 .f32) (x2 : IVec S2x4096 32) (x3 : IVec S_ 32) (i j : Fin 4096) : ℝ :=
  if okay x2 x3 i j = 1 then -1 else gr (col x0 i) (col x1 j)

theorem mr_mem (x0 x1 : Vec Ideal S128x4096 .f32) (x2 : IVec S2x4096 32) (x3 : IVec S_ 32) (i j : Fin 4096) :
    -1 ≤ mr x0 x1 x2 x3 i j ∧ mr x0 x1 x2 x3 i j ≤ 1 := by
  unfold mr
  by_cases h : okay x2 x3 i j = 1
  · rw [if_pos h]; constructor <;> norm_num
  · rw [if_neg h]; exact gr_mem _ _

/-- The reference's masked distance from the masked similarity. -/
theorem inc_real (x0 x1 : Vec Ideal S128x4096 .f32) (x2 : IVec S2x4096 32) (x3 : IVec S_ 32) (i j : Fin 4096) :
    inc x0 x1 x2 x3 i j = ((Real.sqrt (2 - 2 * mr x0 x1 x2 x3 i j) : ℝ) : EReal) := by
  unfold inc mr Scalar.select dd
  by_cases h : okay x2 x3 i j = 1
  · rw [if_pos h, if_pos h]
    have : (2 - 2 * (-1) : ℝ) = 2 ^ 2 := by norm_num
    rw [this, Real.sqrt_sq (by norm_num)]
  · rw [if_neg h, if_neg h]

/-- The kernel's similarities are the normalised columns' products. -/
theorem simsOf_real (x0 x1 : Vec Ideal S128x4096 .f32) (i j : Fin 4096) :
    simsOf (fun k a => x0 (ix2 k a)) (fun k a => x1 (ix2 k a)) i j = ((gr (col x0 i) (col x1 j) : ℝ) : EReal) :=
  (show simsOf (fun k a => x0 (ix2 k a)) (fun k a => x1 (ix2 k a)) i j = gram (col x0 i) (col x1 j) from rfl).trans (gram_eq _ _)

/-- The kernel's masked similarities. -/
theorem masked_real (x0 x1 : Vec Ideal S128x4096 .f32) (x2 : IVec S2x4096 32) (x3 : IVec S_ 32) (hd : Drawn x2 x3) (i j : Fin 4096) :
    masked (x3 ix0) (fun d => x2 (ix2 d i)) (fun d a => x2 (ix2 d a)) (simsOf (fun k a => x0 (ix2 k a)) (fun k a => x1 (ix2 k a)) i) j
      = ((mr x0 x1 x2 x3 i j : ℝ) : EReal) := by
  unfold masked mc
  rw [near_eq _ _ _ (hd.pt 0 i) (hd.pt 0 j) hd.rel, near_eq _ _ _ (hd.pt 1 i) (hd.pt 1 j) hd.rel, simsOf_real, lit_neg_one]
  show Scalar.select (okay x2 x3 i j) _ _ = _
  unfold Scalar.select mr
  by_cases h : okay x2 x3 i j = 1
  · rw [if_pos h, if_pos h]
  · rw [if_neg h, if_neg h]

/-- The maximum over the lanes of real values is one of them, and no other exceeds it. -/
theorem big_real (f : Fin 4096 → ℝ) : ∃ j, big (fun k => ((f k : ℝ) : EReal)) = ((f j : ℝ) : EReal) ∧ ∀ k, f k ≤ f j := by
  have h := fold_max_greatest (n := 4095) (fun k => ((f k : ℝ) : EReal))
  have e : big (fun k => ((f k : ℝ) : EReal)) = (Finset.univ : Finset (Fin 4096)).fold max ⊥ (fun k => ((f k : ℝ) : EReal)) := by
    unfold big; rw [lit_bot]
  obtain ⟨⟨j, hj⟩, hb⟩ := h
  refine ⟨j, e.trans hj.symm, fun k => ?_⟩
  have := hb ⟨k, rfl⟩
  rw [← hj] at this
  exact EReal.coe_le_coe_iff.mp this

/-- The distance of a similarity is the square root of twice its distance from one. -/
theorem dist_real (r : ℝ) (h : r ≤ 1) :
    Ideal.sqrt (Ideal.ofBits .f32 0x40000000#32 - Ideal.ofBits .f32 0x40000000#32 * ((r : ℝ) : EReal))
      = ((Real.sqrt (2 - 2 * r) : ℝ) : EReal) := by
  rw [lit_two, ← EReal.coe_mul, ← EReal.coe_sub, sqrt_coe _ (by linarith)]

/-- The kernel's distance equals the reference's. -/
theorem dist_eq (x0 x1 : Vec Ideal S128x4096 .f32) (x2 : IVec S2x4096 32) (x3 : IVec S_ 32) (hd : Drawn x2 x3) (i : Fin 4096) :
    kDist (fun k a => x0 (ix2 k a)) (fun k a => x1 (ix2 k a)) (fun d a => x2 (ix2 d a)) (x3 ix0) i
      = val_main_v80 (F := Ideal) x0 x1 x2 x3 (ix1 i) := by
  obtain ⟨j, hj, hmax⟩ := big_real (mr x0 x1 x2 x3 i)
  have e : kDist (fun k a => x0 (ix2 k a)) (fun k a => x1 (ix2 k a)) (fun d a => x2 (ix2 d a)) (x3 ix0) i = inc x0 x1 x2 x3 i j := by
    unfold kDist distRow
    rw [show masked (x3 ix0) (fun d => x2 (ix2 d i)) (fun d a => x2 (ix2 d a)) (simsOf (fun k a => x0 (ix2 k a)) (fun k a => x1 (ix2 k a)) i)
      = fun j => ((mr x0 x1 x2 x3 i j : ℝ) : EReal) from funext (masked_real x0 x1 x2 x3 hd i), hj, dist_real _ (mr_mem _ _ _ _ _ _).2, inc_real]
  rw [e]
  have hl : IsLeast (Set.range (inc x0 x1 x2 x3 i)) (inc x0 x1 x2 x3 i j) := by
    refine ⟨⟨j, rfl⟩, ?_⟩
    rintro _ ⟨k, rfl⟩
    rw [inc_real, inc_real]
    exact EReal.coe_le_coe_iff.mpr (Real.sqrt_le_sqrt (by linarith [hmax k]))
  exact hl.unique (v80_least x0 x1 x2 x3 i)

end Cert.Mine

end
-- ==== Proof.Ranges.lean ====
/- What the claims' preconditions on the points and the relaxation say of the words. -/
module

public import proofs.«01_k».proof.Proof.Dist
public import proofs.«01_k».proof.Defs

@[expose] public section

set_option maxRecDepth 16384

noncomputable section

namespace Cert.Mine

open Idealize.ShloMosaic
open Cert.ReferenceIdeal (S128x4096 S2x4096 S_)

/-- The shape relations the three preconditions and the three masks state. -/
theorem drawn_facts : Cert.Pre_drawn.Facts where
  bcast_S_S2x4096 := by decide

theorem only_dist_facts : Cert.On_only_dist.Facts where
  bcast_S_S1x1 := by decide
  bcast_S_S4096x1 := by decide

/-- The bit of a test that holds. -/
theorem of_set (p : Bool) (h : BitVec.ofBool p = 1#1) : p = true := by
  revert h; revert p; decide

/-- Both bits of a conjunction of two tests are set. -/
theorem both_of_andi (p q : Bool) (h : IntOp.andi (BitVec.ofBool p) (BitVec.ofBool q) = 1#1) : p = true ∧ q = true := by
  revert h; revert p q; decide

/-- The range tests, read at every point. -/
theorem points_of_tests (x2 : IVec S2x4096 32)
    (h2 : ∀ d j, IntOp.andi (IntOp.cmpi .sge (x2 (ix2 d j)) 0#32) (IntOp.cmpi .slt (x2 (ix2 d j)) 512#32) = 1#1) (d : Fin 2) (j : Fin 4096) :
    (x2 (ix2 d j)).toNat < 512 := by
  obtain ⟨a, b⟩ := both_of_andi _ _ (h2 d j)
  exact nat_of_range _ 512 a b (by norm_num)

/-- The range tests, read at every point and at the relaxation. -/
theorem drawn_of_tests (x2 : IVec S2x4096 32) (x3 : IVec S_ 32)
    (h2 : ∀ d j, IntOp.andi (IntOp.cmpi .sge (x2 (ix2 d j)) 0#32) (IntOp.cmpi .slt (x2 (ix2 d j)) 512#32) = 1#1)
    (h3 : IntOp.cmpi .sge (x3 ix0) 0#32 = 1#1) : Drawn x2 x3 where
  pt := points_of_tests x2 h2
  rel := nat_of_nonneg _ (of_set _ h3)

/-- The precondition `drawn` gives the ranges. -/
theorem drawn_of_fn [Cert.Pre_drawn.Facts] (x0 x1 : FVec Ideal S128x4096 .f32) (x2 : IVec S2x4096 32) (x3 : IVec S_ 32)
    (h1 : (Cert.Pre_drawn.fn (F := Ideal) x0 x1 x2 x3).1 = fun _ => 1#1) (h2 : (Cert.Pre_drawn.fn (F := Ideal) x0 x1 x2 x3).2 = fun _ => 1#1) :
    Drawn x2 x3 :=
  drawn_of_tests x2 x3 (fun d j => congrFun h1 (ix2 d j)) (congrFun h2 ix0)

end Cert.Mine

end
-- ==== Proof.Runs.lean ====
/- The two programs' runs, each result as a function of the argument arrays, and the frames. -/
module

public import proofs.«01_k».proof.Proof.KernelArr
public import proofs.«01_k».proof.Proof.Ranges
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent
public import Idealize.ShloMosaic.Adequacy
public import Idealize.ShloMosaic.Init

@[expose] public section

set_option maxRecDepth 16384

noncomputable section

namespace Cert.Mine

open Idealize.ShloMosaic Idealize.SL.Sem

/-- The kernel as printed leaves its arguments and every counter as they were. -/
theorem frame_kernel : Cert.quiescent_Kernel := fun m g _ => Cert.Kernel.Gen.frame m g

/-- The idealized kernel likewise, from any memory. -/
theorem frame_ideal : Cert.quiescent_KernelIdeal := fun m g _ => Cert.KernelIdeal.Gen.frame m g

/-- The reference likewise. -/
theorem frame_reference : Cert.quiescent_ReferenceIdeal := fun m g _ =>
  (θ_run Cert.ReferenceIdeal.defs _ _).mono (fun r h => ⟨fun c => (h c).2.2.2, sem_eq_zero_of_no_sems (by decide) r.2⟩)
    (Cert.ReferenceIdeal.Value.run (F := Ideal) m g)

/-- The named literal is the machine's rounding of its rational. -/
theorem named : Cert.preserves_Kernel_KernelIdeal :=
  IdealRules.named_const.statement Cert.KernelIdeal.κ "c_eps_eps" .f32 0x2F0CBCCC#32
    ((77371252064649 / 604462909807314587353088 : ℝ) : EReal) rfl

/-- The precondition `drawn` of a memory gives the ranges on every device. -/
theorem drawn_of_pre [Cert.Pre_drawn.Facts] (m : (ℓ : Loc Cert.KernelIdeal.nD Cert.KernelIdeal.τ Cert.KernelIdeal.sig) → Buf (Elt Ideal) ℓ)
    (h : Cert.Pre_KernelIdeal_drawn m) (c : Dev Cert.KernelIdeal.nD) :
    Drawn (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) :=
  drawn_of_fn _ _ _ _ (h c).1 (h c).2

open Cert.ReferenceIdeal.Read in
/-- The reference's distances are the kernel's, on the ranges. -/
theorem dist_result (m : (ℓ : Loc Cert.KernelIdeal.nD Cert.KernelIdeal.τ Cert.KernelIdeal.sig) → Buf (Elt Ideal) ℓ)
    (c : Dev Cert.KernelIdeal.nD)
    (hd : Drawn (m ((c.tc : Thread Cert.KernelIdeal.nD Cert.KernelIdeal.τ).loc Cert.KernelIdeal.main_arg2))
      (m ((c.tc : Thread Cert.KernelIdeal.nD Cert.KernelIdeal.τ).loc Cert.KernelIdeal.main_arg3)))
    (i : Cert.ReferenceIdeal.S4096x1.Idx) :
    val_main_v133 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) i
      = Cert.KernelIdeal.Value.G6 m c i := by
  rw [val_main_v133_apply]
  have e : idx_main_v133 i = ix1 (i 0) := by
    funext a
    match a with
    | ⟨0, _⟩ =>
      apply Fin.ext
      have h0 : (i 0).val < 4096 := (i 0).isLt
      have h1 : (i 1).val < 1 := (i 1).isLt
      show (idx_main_v133 i 0).val = (i 0).val
      simp only [idx_main_v133]
      omega
  have e' : i = ix2 (i 0) (i 1) := by
    funext a; match a with | ⟨0, _⟩ => rfl | ⟨1, _⟩ => rfl
  rw [e]
  refine (dist_eq _ _ _ _ hd (i 0)).symm.trans ?_
  rw [e']
  exact (G6_at m c (i 0) (i 1)).symm

end Cert.Mine

end
-- ==== Proof.ClaimDist.lean ====
/- The claim of the distances. -/
module

public import proofs.«01_k».proof.Proof.Runs

@[expose] public section

set_option maxRecDepth 16384

noncomputable section

namespace Cert.Mine

open Idealize.ShloMosaic Idealize.SL.Sem

/-- The distances the kernel returns are the reference's, for points in their range and a relaxation that is not negative. -/
theorem claim_dist [Cert.Pre_drawn.Facts] [Cert.On_only_dist.Facts] :
    Cert.algebraic_KernelIdeal_ReferenceIdeal_on_only_dist_pre_drawn := by
  intro m g m' g' hpre hag
  refine ⟨fun c => Cert.KernelIdeal.Value.G7 m c, fun c => Cert.KernelIdeal.Value.G8 m c, fun c => Cert.KernelIdeal.Value.G6 m c, ?_, ?_⟩
  · exact (θ_run Cert.KernelIdeal.defs _ _).mono
      (fun r h c => ⟨fun i _ => congrFun (h c).2.1 i, fun i _ => congrFun (h c).2.2.1 i, fun i _ => congrFun (h c).1 i, (h c).2.2.2⟩)
      (Cert.KernelIdeal.Value.run m g)
  · refine (θ_run Cert.ReferenceIdeal.defs _ _).mono (fun r h c => ⟨fun i hi => ?_, fun i hi => ?_, fun i _ => ?_, (h c).2.2.2⟩)
      (Cert.ReferenceIdeal.Value.run (F := Ideal) m' g')
    · exact absurd (show (0#1 : BitVec 1) = 1#1 from hi) (by decide)
    · exact absurd (show (0#1 : BitVec 1) = 1#1 from hi) (by decide)
    · have hr := (h c).2.2.1
      have he := Cert.ReferenceIdeal.Read.val_main_v133_eq (F := Ideal) (StableHlo.launchContents m' c)
      rw [StableHlo.launchContents_devRef, StableHlo.launchContents_devRef, StableHlo.launchContents_devRef,
        StableHlo.launchContents_devRef, (hag c).1, (hag c).2.1, (hag c).2.2.1, (hag c).2.2.2] at he
      exact (congrFun (hr.trans he) i).trans (dist_result m c (drawn_of_pre m hpre c) i)

end Cert.Mine

end
-- ==== Proof.Accum.lean ====
/- Four blocks of terms, each divided by the number of columns and added up, make the terms' mean. -/
module

public import proofs.«01_k».proof.Proof.Dist

@[expose] public section

set_option maxRecDepth 16384

noncomputable section

namespace Cert.Mine

open Idealize.ShloMosaic
open Cert.ReferenceIdeal (S4096)

/-- A term numbered by a natural number, 0 beyond the columns. -/
def ext (F : Fin 4096 → ℝ) (k : ℕ) : ℝ := if h : k < 4096 then F ⟨k, h⟩ else 0

theorem ext_coe (F : Fin 4096 → ℝ) (k : ℕ) :
    ((ext F k : ℝ) : EReal) = if h : k < 4096 then ((F ⟨k, h⟩ : ℝ) : EReal) else 0 := by
  unfold ext
  by_cases h : k < 4096
  · rw [dif_pos h, dif_pos h]
  · rw [dif_neg h, dif_neg h, EReal.coe_zero]

/-- All the terms, block by block. -/
theorem sum_blocks (F : Fin 4096 → ℝ) :
    ∑ i, F i = (∑ x ∈ Finset.range 1024, ext F (1024 * 0 + x)) + (∑ x ∈ Finset.range 1024, ext F (1024 * 1 + x))
      + (∑ x ∈ Finset.range 1024, ext F (1024 * 2 + x)) + (∑ x ∈ Finset.range 1024, ext F (1024 * 3 + x)) := by
  have h : ∑ i, F i = ∑ k ∈ Finset.range (1024 + 1024 + 1024 + 1024), ext F k := by
    rw [Finset.sum_range]
    refine Finset.sum_congr rfl fun i _ => ?_
    unfold ext
    rw [dif_pos i.isLt]
  rw [h, Finset.sum_range_add, Finset.sum_range_add, Finset.sum_range_add]
  simp only [Nat.mul_zero, Nat.zero_add]

/-- A block's contribution, as a real number. -/
theorem part_real (F : Fin 4096 → ℝ) (n : ℕ) :
    part (fun i => ((F i : ℝ) : EReal)) n = (((∑ x ∈ Finset.range 1024, ext F (1024 * n + x)) / 4096 : ℝ) : EReal) := by
  have h : (∑ x : Fin 1024, ∑ _y : Fin 1, if h : 1024 * n + x.val < 4096 then ((F ⟨1024 * n + x.val, h⟩ : ℝ) : EReal) else 0)
      = ((∑ x ∈ Finset.range 1024, ext F (1024 * n + x) : ℝ) : EReal) := by
    rw [Finset.sum_range, coe_sum]
    refine Finset.sum_congr rfl fun x _ => ?_
    rw [Fin.sum_univ_one, ext_coe]
  unfold part
  rw [h, lit_width, div_coe _ _ (by norm_num)]

/-- The accumulator after the last block is the mean of the terms. -/
theorem accum_real (z : EReal) (hz : z = 0) (F : Fin 4096 → ℝ) :
    accum z (fun i => ((F i : ℝ) : EReal)) 3 = (((∑ i, F i) / 4096 : ℝ) : EReal) := by
  rw [accum_succ, accum_succ, accum_succ, accum_zero, part_real, part_real, part_real, part_real, hz, zero_add,
    ← EReal.coe_add, ← EReal.coe_add, ← EReal.coe_add, sum_blocks]
  congr 1
  ring

/-- The reference's mean of real terms. -/
theorem mean_real (F : Fin 4096 → ℝ) :
    Ideal.div (∑ i, ((F i : ℝ) : EReal)) (Ideal.ofBits .f32 0x45800000#32) = (((∑ i, F i) / 4096 : ℝ) : EReal) := by
  rw [← coe_sum, lit_width, div_coe _ _ (by norm_num)]

/-- A sum over the positions of a row is the sum over its columns. -/
theorem sum_positions (f : S4096.Idx → EReal) : ∑ j : S4096.Idx, f j = ∑ i : Fin 4096, f (ix1 i) :=
  (Fintype.sum_bijective (fun i : Fin 4096 => (ix1 i : S4096.Idx))
    ⟨fun a b h => congrFun h 0, fun j => ⟨j 0, by funext a; match a with | ⟨0, _⟩ => rfl⟩⟩ _ _ (fun _ => rfl)).symm

end Cert.Mine

end
-- ==== Proof.Unique.lean ====
/- The preconditions that exclude ties: a row whose least value is counted once has one column below all others. -/
module

public import proofs.«01_k».proof.Proof.Ranges

@[expose] public section

set_option maxRecDepth 16384

noncomputable section

namespace Cert.Mine

open Idealize.ShloMosaic Cert.ReferenceIdeal.Read
open Cert.ReferenceIdeal (S128x4096 S2x4096 S_ S4096x4096 S4096x1 S4096)

theorem red1 : S4096x4096.Reduces [1] S4096 := by decide

/-- The sum of a row. -/
theorem row_sum (x : FVec Ideal S4096x4096 .f32) (init : FVec Ideal S_ .f32) (h : S4096x4096.ReducesTo [1] S4096) (hu : 0 < S_.numel) (i : Fin 4096) :
    Host.reduceAdd x init h hu (ix1 i) = init (Shape.Idx.first hu) + ∑ j : Fin 4096, x (ix2 i j) := by
  simp only [Host.reduceAdd, Ideal.hostReduceAdd_def]
  rw [Ideal.hostReduceAdd_single h red1]
  refine congrArg (_ + ·) (Finset.sum_congr rfl fun k _ => ?_)
  exact congrArg x (funext fun a => Fin.ext (by match a with | ⟨0, _⟩ => rfl | ⟨1, _⟩ => rfl))

/-- The least of a row. -/
theorem row_min (x : FVec Ideal S4096x4096 .f32) (h : S4096x4096.ReducesTo [1] S4096) (hu : 0 < S_.numel) (i : Fin 4096) :
    IsLeast (Set.range fun j => x (ix2 i j))
      (Host.reduce (FloatOps.minimumf (F := Ideal) (φ := .f32)) x (constant S_ .f32 0x7F800000#32) h hu (ix1 i)) := by
  have e : Host.reduce (FloatOps.minimumf (F := Ideal) (φ := .f32)) x (constant S_ .f32 0x7F800000#32) h hu (ix1 i)
      = (Finset.univ : Finset (Fin 4096)).fold min ⊤ (fun j => x (ix2 i j)) := by
    have hf := Host.reduce_eq_fold_single (a := (1 : Fin 2)) (FloatOps.minimumf (F := Ideal) (φ := .f32)) x
      (constant (F := Ideal) S_ .f32 0x7F800000#32) h red1 hu (ix1 i)
    refine hf.trans ?_
    have e2 : (x ∘ red1.lift (ix1 i)) = fun j => x (ix2 i j) :=
      funext fun j => congrArg x (funext fun a => Fin.ext (by match a with | ⟨0, _⟩ => rfl | ⟨1, _⟩ => rfl))
    rw [e2]
    show (Finset.univ : Finset (Fin 4096)).fold min (Ideal.ofBits .f32 0x7F800000#32) _ = _
    rw [lit_top]
  rw [e]
  exact fold_min_least (n := 4095) _

/-- The least of finitely many reals, counted once, is met at one place. -/
theorem unique_of_sum (d : Fin 4096 → ℝ) (M : EReal) (hM : IsLeast (Set.range fun j => ((d j : ℝ) : EReal)) M)
    (hc : (∑ j, Scalar.select (BitVec.ofBool (decide (((d j : ℝ) : EReal) = M))) ((1 : ℝ) : EReal) ((0 : ℝ) : EReal)) = ((1 : ℝ) : EReal)) :
    ∃ j0, ∀ j, j ≠ j0 → d j0 < d j := by
  classical
  obtain ⟨⟨j0, hj0⟩, hb⟩ := hM
  have e : ∀ j, Scalar.select (BitVec.ofBool (decide (((d j : ℝ) : EReal) = M))) ((1 : ℝ) : EReal) ((0 : ℝ) : EReal)
      = (((if d j = d j0 then 1 else 0 : ℝ)) : EReal) := fun j => by
    have hiff : (((d j : ℝ) : EReal) = M) ↔ d j = d j0 := by rw [← hj0]; exact EReal.coe_eq_coe_iff
    unfold Scalar.select
    by_cases h : d j = d j0
    · rw [if_pos h, decide_eq_true (hiff.mpr h)]; rfl
    · rw [if_neg h, decide_eq_false (fun h' => h (hiff.mp h'))]; rfl
  rw [Finset.sum_congr rfl (fun j _ => e j), ← coe_sum, EReal.coe_eq_coe_iff, Finset.sum_boole] at hc
  have hcard : (Finset.univ.filter fun j => d j = d j0).card = 1 := by exact_mod_cast hc
  obtain ⟨k, hk⟩ := Finset.card_eq_one.mp hcard
  have hmem : j0 ∈ Finset.univ.filter fun j => d j = d j0 := by simp
  rw [hk, Finset.mem_singleton] at hmem
  refine ⟨j0, fun j hj => lt_of_le_of_ne ?_ fun h => hj ?_⟩
  · have := hb ⟨j, rfl⟩
    rw [← hj0] at this
    exact EReal.coe_le_coe_iff.mp this
  · have hm : j ∈ Finset.univ.filter fun j => d j = d j0 := by simp [h]
    rw [hk, Finset.mem_singleton] at hm
    exact hm.trans hmem.symm

/-- A set bit's proposition holds. -/
theorem of_bit (p : Prop) [Decidable p] (h : BitVec.ofBool (decide p) = 1#1) : p := by
  by_contra hp
  rw [decide_eq_false hp] at h
  exact absurd h (by decide)

/-- The count of the places that meet a row's least value, tested against one, as the preconditions compute it. -/
theorem unique_of_test (D : FVec Ideal S4096x4096 .f32) (hr : S4096x4096.ReducesTo [1] S4096) (hu : 0 < S_.numel)
    (h1 : S4096.BroadcastsInDim S4096x1 (![0] : Fin 1 → Fin S4096x1.rank))
    (h2 : S4096x1.BroadcastsInDim S4096x4096 (![0, 1] : Fin 2 → Fin S4096x4096.rank))
    (h3 : S_.BroadcastsInDim S4096x4096 (![] : Fin 0 → Fin S4096x4096.rank))
    (h4 : S_.BroadcastsInDim S4096 (![] : Fin 0 → Fin S4096.rank)) (i : Fin 4096) (d : Fin 4096 → ℝ)
    (hd : ∀ j, D (ix2 i j) = ((d j : ℝ) : EReal))
    (hc : cmpf .oeq (Host.reduceAdd (select (cmpf .oeq D (broadcastInDim S4096x4096 ![0, 1] h2 (broadcastInDim S4096x1 ![0] h1
        (Host.reduce (FloatOps.minimumf (F := Ideal) (φ := .f32)) D (constant S_ .f32 0x7F800000#32) hr hu))))
        (broadcastInDim S4096x4096 ![] h3 (constant (F := Ideal) S_ .f32 0x3F800000#32))
        (broadcastInDim S4096x4096 ![] h3 (constant (F := Ideal) S_ .f32 0x00000000#32))) (constant S_ .f32 0x00000000#32) hr hu)
      (broadcastInDim S4096 ![] h4 (constant (F := Ideal) S_ .f32 0x3F800000#32)) (ix1 i) = 1#1) :
    ∃ j0, ∀ j, j ≠ j0 → d j0 < d j := by
  have hmin := row_min D hr hu i
  rw [show (fun j => D (ix2 i j)) = fun j => ((d j : ℝ) : EReal) from funext hd] at hmin
  refine unique_of_sum d _ hmin ?_
  generalize hM : Host.reduce (FloatOps.minimumf (F := Ideal) (φ := .f32)) D (constant S_ .f32 0x7F800000#32) hr hu = M at hc
  have e : ∀ j : Fin 4096, broadcastInDim S4096x4096 ![0, 1] h2 (broadcastInDim S4096x1 ![0] h1 M) (ix2 i j) = M (ix1 i) := fun j => by
    refine (broadcastInDim_apply _ h2 _ (ix2 i j) (ix2 i 0) fun a => match a with | ⟨0, _⟩ => rfl | ⟨1, _⟩ => rfl).trans ?_
    exact broadcastInDim_apply _ h1 M (ix2 i 0) (ix1 i) fun a => match a with | ⟨0, _⟩ => rfl
  rw [show ∀ (x y : FVec Ideal S4096 .f32) k, cmpf .oeq x y k = BitVec.ofBool (decide (x k = y k)) from fun _ _ _ => rfl, row_sum] at hc
  have hc' := of_bit _ hc
  have l1 : (Ideal.ofBits .f32 0x3F800000#32 : EReal) = ((1 : ℝ) : EReal) := lit_one
  have l0 : (Ideal.ofBits .f32 0x00000000#32 : EReal) = ((0 : ℝ) : EReal) := lit_zero
  have step : (∑ j : Fin 4096, (select (cmpf .oeq D (broadcastInDim S4096x4096 ![0, 1] h2 (broadcastInDim S4096x1 ![0] h1 M)))
        (broadcastInDim S4096x4096 ![] h3 (constant (F := Ideal) S_ .f32 0x3F800000#32))
        (broadcastInDim S4096x4096 ![] h3 (constant (F := Ideal) S_ .f32 0x00000000#32))) (ix2 i j))
      = ∑ j, Scalar.select (BitVec.ofBool (decide (((d j : ℝ) : EReal) = M (ix1 i)))) ((1 : ℝ) : EReal) ((0 : ℝ) : EReal) := by
    refine Finset.sum_congr rfl fun j _ => ?_
    show Scalar.select (BitVec.ofBool (decide (D (ix2 i j) = broadcastInDim S4096x4096 ![0, 1] h2 (broadcastInDim S4096x1 ![0] h1 M) (ix2 i j))))
      (Ideal.ofBits .f32 0x3F800000#32) (Ideal.ofBits .f32 0x00000000#32) = _
    rw [e, hd, l1, l0]
  rw [step] at hc'
  have hz : (constant (F := Ideal) S_ .f32 0x00000000#32 (Shape.Idx.first hu) : EReal) = 0 := l0.trans EReal.coe_zero
  rw [hz, zero_add] at hc'
  exact hc'.trans l1

end Cert.Mine

end
-- ==== Proof.Recall.lean ====
/- The recall: with one nearest column, the kernel's packed maximum is that column's point, which is the first of the
   reference's ranks. -/
module

public import proofs.«01_k».proof.Proof.Accum
public import proofs.«01_k».proof.Proof.Unique

@[expose] public section

set_option maxRecDepth 16384

noncomputable section

namespace Cert.Mine

open Idealize.ShloMosaic Cert.ReferenceIdeal.Read
open Cert.ReferenceIdeal (S128x4096 S2x4096 S_ S4096x4096 S4096x1 S4096)

/-- The precondition `nearest_unique` names each row's nearest column. -/
theorem nearest_of_fn [Cert.Pre_nearest_unique.Facts] (x0 x1 : FVec Ideal S128x4096 .f32) (x2 : IVec S2x4096 32) (x3 : IVec S_ 32)
    (h : (Cert.Pre_nearest_unique.fn (F := Ideal) x0 x1 x2 x3).2 = fun _ => 1#1) (i : Fin 4096) :
    ∃ j0, ∀ j, j ≠ j0 → dd (col x0 i) (col x1 j0) < dd (col x0 i) (col x1 j) :=
  unique_of_test (val_main_v23 (F := Ideal) x0 x1) Cert.Pre_nearest_unique.Facts.reducesTo_S4096x4096_S4096_d1
    Cert.Pre_nearest_unique.Facts.h_S_ Cert.Pre_nearest_unique.Facts.bcast_S4096_S4096x1_0
    Cert.Pre_nearest_unique.Facts.bcast_S4096x1_S4096x4096_0_1 Cert.Pre_nearest_unique.Facts.bcast_S_S4096x4096
    Cert.Pre_nearest_unique.Facts.bcast_S_S4096 i (fun j => dd (col x0 i) (col x1 j)) (v23_at x0 x1 i) (congrFun h (ix1 i))

/-- The precondition `nearest_unique` gives the points' range as well. -/
theorem points_of_nearest [Cert.Pre_nearest_unique.Facts] (x0 x1 : FVec Ideal S128x4096 .f32) (x2 : IVec S2x4096 32) (x3 : IVec S_ 32)
    (h : (Cert.Pre_nearest_unique.fn (F := Ideal) x0 x1 x2 x3).1 = fun _ => 1#1) (d : Fin 2) (j : Fin 4096) : (x2 (ix2 d j)).toNat < 512 :=
  points_of_tests x2 (fun d j => congrFun h (ix2 d j)) d j

/-- Every rank but the first comes after it. -/
theorem after_first {n : ℕ} [NeZero n] (r : Fin n) (h : r ≠ 0) : 0 < r := Fin.pos_iff_ne_zero.mpr h

/-- The nearest column is the first rank's. -/
theorem first_rank (x0 x1 : Vec Ideal S128x4096 .f32) (i j0 : Fin 4096)
    (h : ∀ j, j ≠ j0 → dd (col x0 i) (col x1 j0) < dd (col x0 i) (col x1 j)) : ranked x0 x1 i 0 = j0 := by
  by_contra hne
  obtain ⟨r, hr⟩ := ranked_surj x0 x1 i j0
  have h0 : (0 : Fin 4096) < r := after_first r fun h' => hne (h' ▸ hr)
  have hle := ranked_le x0 x1 i 0 r h0
  rw [hr] at hle
  exact absurd (h _ hne) (not_lt.mpr hle)

/-- A larger distance is a smaller similarity. -/
theorem gr_lt_of_dd (a b c : Fin 128 → EReal) (h : dd a b < dd a c) : gr a c < gr a b := by
  by_contra hle
  exact absurd h (not_lt.mpr (Real.sqrt_le_sqrt (by linarith [not_lt.mp hle])))

/-- The packed point as a real number. -/
theorem pk_real (x y : BitVec 32) (hx : x.toNat < 512) (hy : y.toNat < 512) :
    pk x y = (((x.toNat * 512 + y.toNat : ℕ) : ℝ) : EReal) := by
  have h : (x * 512#32 + y).toInt = ((x.toNat * 512 + y.toNat : ℕ) : ℤ) := by
    have e : (x * 512#32 + y).toNat = x.toNat * 512 + y.toNat := by
      rw [BitVec.toNat_add, BitVec.toNat_mul, BitVec.toNat_ofNat]
      omega
    rw [BitVec.toInt_eq_toNat_cond, e, if_pos (by omega)]
  show ((((x * 512#32 + y).toInt : ℤ) : ℝ) : EReal) = _
  rw [h, Int.cast_natCast]

/-- The kernel's match as a number. -/
theorem hit_real (a b : EReal) : hit a b = (((if a = b then 1 else 0 : ℝ)) : EReal) := by
  unfold hit
  by_cases h : a = b
  · rw [if_pos h, decide_eq_true h]
    show ((((BitVec.setWidth 32 (BitVec.ofBool true)).toInt : ℤ) : ℝ) : EReal) = _
    rw [show (BitVec.setWidth 32 (BitVec.ofBool true)).toInt = 1 from by decide, Int.cast_one]
  · rw [if_neg h, decide_eq_false h]
    show ((((BitVec.setWidth 32 (BitVec.ofBool false)).toInt : ℤ) : ℝ) : EReal) = _
    rw [show (BitVec.setWidth 32 (BitVec.ofBool false)).toInt = 0 from by decide, Int.cast_zero]

/-- The maximum over the lanes when one lane exceeds the others. -/
theorem big_unique (f : Fin 4096 → ℝ) (j0 : Fin 4096) (h : ∀ j, f j ≤ f j0) :
    big (fun k => ((f k : ℝ) : EReal)) = ((f j0 : ℝ) : EReal) := by
  obtain ⟨j, hj, hmax⟩ := big_real f
  rw [hj, le_antisymm (h j) (hmax j0)]

/-- The kernel's recall term, with one nearest column. -/
theorem kRec_real (x0 x1 : Vec Ideal S128x4096 .f32) (x2 : IVec S2x4096 32) (hp : ∀ d j, (x2 (ix2 d j)).toNat < 512) (i j0 : Fin 4096)
    (h : ∀ j, j ≠ j0 → dd (col x0 i) (col x1 j0) < dd (col x0 i) (col x1 j)) :
    kRec (fun k a => x0 (ix2 k a)) (fun k a => x1 (ix2 k a)) (fun d a => x2 (ix2 d a)) i
      = (((if x2 (ix2 0 j0) = x2 (ix2 0 i) ∧ x2 (ix2 1 j0) = x2 (ix2 1 i) then 1 else 0 : ℝ)) : EReal) := by
  have hg : ∀ j, j ≠ j0 → gr (col x0 i) (col x1 j) < gr (col x0 i) (col x1 j0) := fun j hj => gr_lt_of_dd _ _ _ (h j hj)
  have hgb : big (fun j => ((gr (col x0 i) (col x1 j) : ℝ) : EReal)) = ((gr (col x0 i) (col x1 j0) : ℝ) : EReal) :=
    big_unique (fun j => gr (col x0 i) (col x1 j)) j0 fun j => by
      by_cases hj : j = j0
      · rw [hj]
      · exact (hg j hj).le
  have hsel : ∀ j, Scalar.select (BitVec.ofBool (decide (((gr (col x0 i) (col x1 j) : ℝ) : EReal) = ((gr (col x0 i) (col x1 j0) : ℝ) : EReal))))
      (pk (x2 (ix2 0 j)) (x2 (ix2 1 j))) ((-1 : ℝ) : EReal)
      = (((if j = j0 then (((x2 (ix2 0 j0)).toNat * 512 + (x2 (ix2 1 j0)).toNat : ℕ) : ℝ) else -1 : ℝ)) : EReal) := fun j => by
    unfold Scalar.select
    by_cases hj : j = j0
    · subst hj
      rw [if_pos rfl, decide_eq_true rfl, pk_real _ _ (hp 0 j) (hp 1 j)]
      rfl
    · rw [if_neg hj, decide_eq_false fun h' => absurd (EReal.coe_eq_coe_iff.mp h') (ne_of_lt (hg j hj))]
      rfl
  have hb := big_unique (fun j => if j = j0 then (((x2 (ix2 0 j0)).toNat * 512 + (x2 (ix2 1 j0)).toNat : ℕ) : ℝ) else -1) j0 fun j => by
    by_cases hj : j = j0
    · rw [hj]
    · rw [if_neg hj, if_pos rfl]
      have : (0 : ℝ) ≤ (((x2 (ix2 0 j0)).toNat * 512 + (x2 (ix2 1 j0)).toNat : ℕ) : ℝ) := Nat.cast_nonneg _
      linarith
  rw [if_pos rfl] at hb
  unfold kRec recRow
  rw [show simsOf (fun k a => x0 (ix2 k a)) (fun k a => x1 (ix2 k a)) i = fun j => ((gr (col x0 i) (col x1 j) : ℝ) : EReal) from
    funext (simsOf_real x0 x1 i), hgb, lit_neg_one]
  rw [show (fun j => Scalar.select (BitVec.ofBool (decide (((gr (col x0 i) (col x1 j) : ℝ) : EReal) = ((gr (col x0 i) (col x1 j0) : ℝ) : EReal))))
      (pk (x2 (ix2 0 j)) (x2 (ix2 1 j))) ((-1 : ℝ) : EReal)) = _ from funext hsel, hb, hit_real, pk_real _ _ (hp 0 i) (hp 1 i)]
  refine congrArg (fun q : ℝ => (q : EReal)) ?_
  have b1 := hp 1 j0
  have b2 := hp 1 i
  by_cases hh : x2 (ix2 0 j0) = x2 (ix2 0 i) ∧ x2 (ix2 1 j0) = x2 (ix2 1 i)
  · rw [if_pos hh, if_pos (by rw [hh.1, hh.2])]
  · rw [if_neg hh, if_neg]
    intro he
    have hn : (x2 (ix2 0 j0)).toNat * 512 + (x2 (ix2 1 j0)).toNat = (x2 (ix2 0 i)).toNat * 512 + (x2 (ix2 1 i)).toNat := by
      exact_mod_cast EReal.coe_eq_coe_iff.mp he
    exact hh ⟨BitVec.eq_of_toNat_eq (by omega), BitVec.eq_of_toNat_eq (by omega)⟩

/-- The reference tests a difference against zero. -/
theorem zero_diff (a b : BitVec 32) : IntOp.cmpi .eq (IntOp.absi (IntOp.subi b a)) 0#32 = BitVec.ofBool (decide (b = a)) := by
  have h : ((if (b - a).msb then -(b - a) else b - a) == 0#32) = decide (b = a) := by
    have hz : (b - a = 0#32) ↔ b = a := by
      constructor
      · intro h0
        have := congrArg BitVec.toNat h0
        rw [BitVec.toNat_sub, BitVec.toNat_ofNat] at this
        have ha := a.isLt
        have hb := b.isLt
        exact BitVec.eq_of_toNat_eq (by omega)
      · rintro rfl
        exact BitVec.sub_self b
    by_cases hm : (b - a).msb = true
    · rw [if_pos hm]
      refine Bool.eq_iff_iff.mpr ?_
      rw [beq_iff_eq, decide_eq_true_iff, ← hz]
      constructor
      · intro h0
        have := congrArg (fun v => -v) h0
        simpa using this
      · intro h0
        rw [h0]
        decide
    · rw [if_neg hm]
      refine Bool.eq_iff_iff.mpr ?_
      rw [beq_iff_eq, decide_eq_true_iff, hz]
  exact congrArg BitVec.ofBool h

/-- The reference's recall term. -/
theorem v62_at (x0 x1 : Vec Ideal S128x4096 .f32) (x2 : IVec S2x4096 32) (i : Fin 4096) :
    val_main_v62 (F := Ideal) x0 x1 x2 (ix1 i)
      = (((if x2 (ix2 0 (ranked x0 x1 i 0)) = x2 (ix2 0 i) ∧ x2 (ix2 1 (ranked x0 x1 i 0)) = x2 (ix2 1 i) then 1 else 0 : ℝ)) : EReal) := by
  have hi : i.val % 4096 = i.val := Nat.mod_eq_of_lt i.isLt
  have e1 : idx_main_v49 (idx_main_v50 (ix1 i)) = ix2 0 i := by
    funext a; match a with | ⟨0, _⟩ => rfl | ⟨1, _⟩ => exact Fin.ext hi
  have e2 : idx_main_v55 (idx_main_v56 (ix1 i)) = ix2 0 i := by
    funext a; match a with | ⟨0, _⟩ => rfl | ⟨1, _⟩ => exact Fin.ext hi
  rw [val_main_v62_apply, val_main_v61_apply, val_main_v54_apply, val_main_v52_apply, val_main_v51_apply, val_main_v50_apply, val_main_v49_apply,
    val_main_v60_apply, val_main_v58_apply, val_main_v57_apply, val_main_v56_apply, val_main_v55_apply, e1, e2, v46_at, v48_at, v35_at, v44_at,
    val_main_v53_apply, val_main_v59_apply, val_main_c_10_apply, val_main_c_11_apply, zero_diff, zero_diff]
  by_cases hx : x2 (ix2 0 (ranked x0 x1 i 0)) = x2 (ix2 0 i) <;> by_cases hy : x2 (ix2 1 (ranked x0 x1 i 0)) = x2 (ix2 1 i)
  · rw [if_pos ⟨hx, hy⟩, decide_eq_true hx, decide_eq_true hy]
    show ((((1#1 : BitVec 1).toNat : ℕ) : ℝ) : EReal) = _
    rw [show (1#1 : BitVec 1).toNat = 1 from rfl, Nat.cast_one]
  · rw [if_neg fun h => hy h.2, decide_eq_true hx, decide_eq_false hy]
    show ((((0#1 : BitVec 1).toNat : ℕ) : ℝ) : EReal) = _
    rw [show (0#1 : BitVec 1).toNat = 0 from rfl, Nat.cast_zero]
  · rw [if_neg fun h => hx h.1, decide_eq_false hx, decide_eq_true hy]
    show ((((0#1 : BitVec 1).toNat : ℕ) : ℝ) : EReal) = _
    rw [show (0#1 : BitVec 1).toNat = 0 from rfl, Nat.cast_zero]
  · rw [if_neg fun h => hx h.1, decide_eq_false hx, decide_eq_false hy]
    show ((((0#1 : BitVec 1).toNat : ℕ) : ℝ) : EReal) = _
    rw [show (0#1 : BitVec 1).toNat = 0 from rfl, Nat.cast_zero]

/-- The reference's recall is the kernel's accumulator after the last block. -/
theorem recall_eq (x0 x1 : Vec Ideal S128x4096 .f32) (x2 : IVec S2x4096 32) (hp : ∀ d j, (x2 (ix2 d j)).toNat < 512)
    (h : ∀ i, ∃ j0, ∀ j, j ≠ j0 → dd (col x0 i) (col x1 j0) < dd (col x0 i) (col x1 j)) (z : EReal) (hz : z = 0) (p : S_.Idx) :
    val_main_v64 (F := Ideal) x0 x1 x2 p
      = accum z (kRec (fun k a => x0 (ix2 k a)) (fun k a => x1 (ix2 k a)) (fun d a => x2 (ix2 d a))) 3 := by
  have hk : kRec (fun k a => x0 (ix2 k a)) (fun k a => x1 (ix2 k a)) (fun d a => x2 (ix2 d a))
      = fun i => (((if x2 (ix2 0 (ranked x0 x1 i 0)) = x2 (ix2 0 i) ∧ x2 (ix2 1 (ranked x0 x1 i 0)) = x2 (ix2 1 i) then 1 else 0 : ℝ)) : EReal) :=
    funext fun i => by
      obtain ⟨j0, hj⟩ := h i
      rw [first_rank x0 x1 i j0 hj]
      exact kRec_real x0 x1 x2 hp i j0 hj
  rw [hk, accum_real z hz, val_main_v64_apply, val_main_v63_apply, sum_positions]
  rw [Finset.sum_congr rfl fun i _ => v62_at x0 x1 x2 i, val_main_cst_12_apply, val_main_cst_13_apply, Ideal.ofBits_def, lit_zero, EReal.coe_zero, zero_add]
  exact mean_real _

end Cert.Mine

end
-- ==== Proof.ClaimRecall.lean ====
/- The claim of the recall. -/
module

public import proofs.«01_k».proof.Proof.Runs
public import proofs.«01_k».proof.Proof.Recall

@[expose] public section

set_option maxRecDepth 16384

noncomputable section

namespace Cert.Mine

open Idealize.ShloMosaic Idealize.SL.Sem

/-- The shape relations `nearest_unique` and its mask state. -/
theorem nearest_facts : Cert.Pre_nearest_unique.Facts where
  reducesTo_S128x4096_S4096_d0 := Cert.ReferenceIdeal.Gen.reducesTo_S128x4096_S4096_d0
  h_S_ := Cert.ReferenceIdeal.Gen.h_S_
  bcast_S4096_S1x4096_1 := Cert.ReferenceIdeal.Gen.bcast_S4096_S1x4096_1
  bcast_S_S1x4096 := Cert.ReferenceIdeal.Gen.bcast_S_S1x4096
  bcast_S1x4096_S128x4096_0_1 := Cert.ReferenceIdeal.Gen.bcast_S1x4096_S128x4096_0_1
  transposes_S128x4096_S4096x128_1_0 := Cert.ReferenceIdeal.Gen.transposes_S128x4096_S4096x128_1_0
  bcast_S_S4096x4096 := Cert.ReferenceIdeal.Gen.bcast_S_S4096x4096
  reducesTo_S4096x4096_S4096_d1 := by decide
  bcast_S4096_S4096x1_0 := Cert.ReferenceIdeal.Gen.bcast_S4096_S4096x1_0
  bcast_S4096x1_S4096x4096_0_1 := by decide
  bcast_S_S2x4096 := by decide
  bcast_S_S4096 := Cert.ReferenceIdeal.Gen.bcast_S_S4096
  dot_S4096x128_S128x4096_S4096x4096_1_0_0_1_n_n_wf := Cert.ReferenceIdeal.Gen.dot_S4096x128_S128x4096_S4096x4096_1_0_0_1_n_n_wf

theorem only_recall_facts : Cert.On_only_recall.Facts where
  bcast_S_S1x1 := by decide
  bcast_S_S4096x1 := by decide

section

variable [Cert.Pre_nearest_unique.Facts]
  (m : (ℓ : Loc Cert.KernelIdeal.nD Cert.KernelIdeal.τ Cert.KernelIdeal.sig) → Buf (Elt Ideal) ℓ)

open Cert.ReferenceIdeal.Read in
/-- The reference's recall is the kernel's where each source column has one nearest target column. -/
theorem recall_result (hpre : Cert.Pre_KernelIdeal_nearest_unique m) (c : Dev Cert.KernelIdeal.nD) (i : Cert.ReferenceIdeal.S1x1.Idx) :
    val_main_v132 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) i
      = Cert.KernelIdeal.Value.G8 m c i := by
  have hp := points_of_nearest _ _ _ _ (hpre c).1
  have hn := nearest_of_fn _ _ _ _ (hpre c).2
  have e' : i = ix2 (i 0) (i 1) := by
    funext a; match a with | ⟨0, _⟩ => rfl | ⟨1, _⟩ => rfl
  rw [e']
  unfold val_main_v132 shapeCast
  refine (recall_eq _ _ _ hp hn (Cert.KernelIdeal.Gen.k0_pay2 (F := Ideal) (ix2 (i 0) (i 1))) ?_ _).trans (G8_at m c (i 0) (i 1)).symm
  exact lit_zero.trans EReal.coe_zero

end

/-- The recall the kernel returns is the reference's, for points in their range, where each source column has one
    nearest target column. -/
theorem claim_recall [Cert.Pre_nearest_unique.Facts] [Cert.On_only_recall.Facts] :
    Cert.algebraic_KernelIdeal_ReferenceIdeal_on_only_recall_pre_nearest_unique := by
  intro m g m' g' hpre hag
  refine ⟨fun c => Cert.KernelIdeal.Value.G7 m c, fun c => Cert.KernelIdeal.Value.G8 m c, fun c => Cert.KernelIdeal.Value.G6 m c, ?_, ?_⟩
  · exact (θ_run Cert.KernelIdeal.defs _ _).mono
      (fun r h c => ⟨fun i _ => congrFun (h c).2.1 i, fun i _ => congrFun (h c).2.2.1 i, fun i _ => congrFun (h c).1 i, (h c).2.2.2⟩)
      (Cert.KernelIdeal.Value.run m g)
  · refine (θ_run Cert.ReferenceIdeal.defs _ _).mono (fun r h c => ⟨fun i hi => ?_, fun i _ => ?_, fun i hi => ?_, (h c).2.2.2⟩)
      (Cert.ReferenceIdeal.Value.run (F := Ideal) m' g')
    · exact absurd (show (0#1 : BitVec 1) = 1#1 from hi) (by decide)
    · have hr := (h c).2.1
      have he := Cert.ReferenceIdeal.Read.val_main_v132_eq (F := Ideal) (StableHlo.launchContents m' c)
      rw [StableHlo.launchContents_devRef, StableHlo.launchContents_devRef, StableHlo.launchContents_devRef,
        (hag c).1, (hag c).2.1, (hag c).2.2.1] at he
      exact (congrFun (hr.trans he) i).trans (recall_result m hpre c i)
    · exact absurd (show (0#1 : BitVec 1) = 1#1 from hi) (by decide)

end Cert.Mine

end
-- ==== Proof.Loss.lean ====
/- The kernel's loss term, with one hardest column. -/
module

public import proofs.«01_k».proof.Proof.Recall

@[expose] public section

set_option maxRecDepth 16384

noncomputable section

namespace Cert.Mine

open Idealize.ShloMosaic Cert.ReferenceIdeal.Read
open Cert.ReferenceIdeal (S128x4096 S2x4096 S_)

/-- The small constant as a real number. -/
def er : ℝ := 8796093 / 2 ^ 43

theorem eps_real : eps = ((er : ℝ) : EReal) := by
  unfold eps er
  simp [Ideal.ofBits, Ideal.ieee, -EReal.coe_mul]
  norm_num

/-- The literal 2e-6 is twice the literal 1e-6. -/
theorem two_eps_real : (Ideal.ofBits .f32 0x360637BD#32 : EReal) = ((2 * er : ℝ) : EReal) := by
  unfold er
  simp [Ideal.ofBits, Ideal.ieee, -EReal.coe_mul]
  norm_num

/-- The named literal is 128 squares of the small constant. -/
theorem c_eps_real : (Named.named (F := Ideal) (φ := .f32) Cert.KernelIdeal.κ "c_eps_eps" 0x2F0CBCCC#32 : EReal)
    = ((128 * (er * er) : ℝ) : EReal) := by
  refine (IdealRules.named_const.ideal_named_scalar _ _ _ _ rfl).trans (congrArg (fun q : ℝ => (q : EReal)) ?_)
  unfold er
  norm_num

/-- The margin as a real number. -/
def marg : ℝ := (Ideal.ofBits .f32 0x3E4CCCCD#32 : EReal).toReal

theorem margin_real : (Ideal.ofBits .f32 0x3E4CCCCD#32 : EReal) = ((marg : ℝ) : EReal) := by
  obtain ⟨r, hr⟩ := lit_margin
  unfold marg
  rw [hr, EReal.toReal_coe]

/-- The distance of two normalised columns, the small constant added to the difference, as a real number. -/
def dar (a b : Fin 128 → EReal) : ℝ := Real.sqrt (∑ c, (ur a c - ur b c + er) * (ur a c - ur b c + er))

/-- A sum of products of real differences. -/
theorem diff_sum (a b : Fin 128 → EReal) :
    ∑ c, (unit a c - unit b c + eps) * (unit a c - unit b c + eps)
      = ((∑ c, (ur a c - ur b c + er) * (ur a c - ur b c + er) : ℝ) : EReal) := by
  rw [coe_sum]
  refine Finset.sum_congr rfl fun c _ => ?_
  rw [unit_eq, unit_eq, eps_real, ← EReal.coe_sub, ← EReal.coe_add, ← EReal.coe_mul]

theorem dap_real (a b : Fin 128 → EReal) : dap a b = ((dar a b : ℝ) : EReal) := by
  unfold dap dar
  rw [diff_sum, sqrt_coe _ (Finset.sum_nonneg fun c _ => mul_self_nonneg _)]

/-- The square of the distance, in the kernel's grouping. -/
theorem diff_expand (a b : Fin 128 → EReal) :
    ∑ c, (ur a c - ur b c + er) * (ur a c - ur b c + er)
      = (∑ c, ur a c * ur a c + 2 * er * ∑ c, ur a c + 128 * (er * er)) + (∑ c, ur b c * ur b c - 2 * er * ∑ c, ur b c) - 2 * gr a b := by
  have h : ∀ c, (ur a c - ur b c + er) * (ur a c - ur b c + er)
      = ur a c * ur a c + 2 * er * ur a c + er * er + (ur b c * ur b c - 2 * er * ur b c) - 2 * (ur a c * ur b c) := fun c => by ring
  unfold gr
  rw [Finset.sum_congr rfl fun c _ => h c, Finset.sum_sub_distrib, Finset.sum_add_distrib, Finset.sum_sub_distrib, Finset.sum_add_distrib,
    Finset.sum_add_distrib, ← Finset.mul_sum, ← Finset.mul_sum, ← Finset.mul_sum, Finset.sum_const, Finset.card_univ, Fintype.card_fin,
    nsmul_eq_mul, ← Finset.mul_sum]
  push_cast
  ring

theorem sum_ur (a : Fin 128 → EReal) : ∑ c, unit a c = ((∑ c, ur a c : ℝ) : EReal) := by
  rw [coe_sum]
  exact Finset.sum_congr rfl fun c _ => unit_eq a c

theorem base_real (a : Fin 128 → EReal) :
    base a = ((∑ c, ur a c * ur a c + 2 * er * ∑ c, ur a c + 128 * (er * er) : ℝ) : EReal) := by
  unfold base
  rw [rel_sq, two_eps_real, sum_ur, c_eps_real, ← EReal.coe_mul, ← EReal.coe_add, ← EReal.coe_add]

/-- The selected column's constant as a real number. -/
def wr (b : Fin 128 → EReal) : ℝ := ∑ c, ur b c * ur b c - 2 * er * ∑ c, ur b c

theorem wt_real (b : Fin 128 → EReal) : wt b = ((wr b : ℝ) : EReal) := by
  unfold wt wr
  have h : ∑ c, unit b c * unit b c = ((∑ c, ur b c * ur b c : ℝ) : EReal) := gram_eq b b
  rw [h, two_eps_real, sum_ur, ← EReal.coe_mul, ← EReal.coe_sub]

/-- The constant of a column is far above the kernel's low sentinel. -/
theorem wr_low (b : Fin 128 → EReal) : -100 ≤ wr b := by
  have h1 : ∑ c, ur b c ≤ ∑ c : Fin 128, (1 + ur b c * ur b c) / 2 :=
    Finset.sum_le_sum fun c _ => by nlinarith [mul_self_nonneg (ur b c - 1)]
  have h2 : ∑ c : Fin 128, (1 + ur b c * ur b c) / 2 = 64 + (∑ c, ur b c * ur b c) / 2 := by
    rw [← Finset.sum_div, Finset.sum_add_distrib, Finset.sum_const, Finset.card_univ, Fintype.card_fin, nsmul_eq_mul]
    ring
  have h3 := ur_sq_le b
  have h4 : 0 ≤ ∑ c, ur b c * ur b c := Finset.sum_nonneg fun c _ => mul_self_nonneg _
  have e1 : 0 ≤ er := by unfold er; norm_num
  have e2 : er ≤ 1 / 2 := by unfold er; norm_num
  unfold wr
  nlinarith

/-- The loss term of a source column against a target column. -/
def lossr (x0 x1 : Vec Ideal S128x4096 .f32) (i j : Fin 4096) : ℝ :=
  max (dar (col x0 i) (col x1 i) - dar (col x0 i) (col x1 j) + marg) 0

theorem coe_max_zero (a : ℝ) : max ((a : ℝ) : EReal) 0 = ((max a 0 : ℝ) : EReal) := by
  rw [← EReal.coe_zero]
  exact (EReal.coe_strictMono.monotone.map_max).symm

/-- The kernel's negative distance, where the greatest masked similarity belongs to one column that is no correct match. -/
theorem dan_real (a b : Fin 128 → EReal) (m0 : EReal) (h : gr a b ≠ -1) :
    dan a m0 ((gr a b : ℝ) : EReal) ((wr b : ℝ) : EReal) = ((dar a b : ℝ) : EReal) := by
  unfold dan
  have hne : ¬(((gr a b : ℝ) : EReal) = Ideal.ofBits .f32 0xBF800000#32) := fun h' => h (EReal.coe_eq_coe_iff.mp (h'.trans lit_neg_one))
  rw [if_neg hne, base_real, lit_two, ← EReal.coe_mul, ← EReal.coe_add, ← EReal.coe_sub, coe_max_zero]
  have e := diff_expand a b
  have hn : 0 ≤ ∑ c, (ur a c - ur b c + er) * (ur a c - ur b c + er) := Finset.sum_nonneg fun c _ => mul_self_nonneg _
  unfold wr
  rw [← e, max_eq_left hn, sqrt_coe _ hn]
  rfl

/-- One of the columns is another. -/
theorem another {n : ℕ} (h : 1 < n) (j : Fin n) : ∃ k, k ≠ j := by
  by_cases hj : j.val = 0
  · exact ⟨⟨1, h⟩, fun e => by rw [← e] at hj; exact Nat.one_ne_zero hj⟩
  · exact ⟨⟨0, by omega⟩, fun e => hj (by rw [← e])⟩

/-- The kernel's loss term, where one column has the greatest masked similarity. -/
theorem kLoss_real (x0 x1 : Vec Ideal S128x4096 .f32) (x2 : IVec S2x4096 32) (x3 : IVec S_ 32) (hd : Drawn x2 x3) (i j0 : Fin 4096)
    (h : ∀ j, j ≠ j0 → mr x0 x1 x2 x3 i j < mr x0 x1 x2 x3 i j0) :
    kLoss (fun k a => x0 (ix2 k a)) (fun k a => x1 (ix2 k a)) (fun d a => x2 (ix2 d a)) (x3 ix0) i = ((lossr x0 x1 i j0 : ℝ) : EReal) := by
  obtain ⟨k, hk⟩ := another (by norm_num) j0
  have hgt : -1 < mr x0 x1 x2 x3 i j0 := lt_of_le_of_lt (mr_mem x0 x1 x2 x3 i k).1 (h k hk)
  have hgr : mr x0 x1 x2 x3 i j0 = gr (col x0 i) (col x1 j0) := by
    unfold mr at hgt ⊢
    by_cases ho : okay x2 x3 i j0 = 1
    · rw [if_pos ho] at hgt
      exact absurd hgt (lt_irrefl _)
    · rw [if_neg ho]
  have hm : masked (x3 ix0) (fun d => x2 (ix2 d i)) (fun d a => x2 (ix2 d a)) (simsOf (fun k a => x0 (ix2 k a)) (fun k a => x1 (ix2 k a)) i)
      = fun j => ((mr x0 x1 x2 x3 i j : ℝ) : EReal) := funext (masked_real x0 x1 x2 x3 hd i)
  have hb : big (fun j => ((mr x0 x1 x2 x3 i j : ℝ) : EReal)) = ((mr x0 x1 x2 x3 i j0 : ℝ) : EReal) :=
    big_unique (mr x0 x1 x2 x3 i) j0 fun j => by
      by_cases hj : j = j0
      · rw [hj]
      · exact (h j hj).le
  obtain ⟨low, hlow, hl⟩ := lit_low
  have hw : big (fun j => if ((mr x0 x1 x2 x3 i j : ℝ) : EReal) = ((mr x0 x1 x2 x3 i j0 : ℝ) : EReal) then wt (fun e => x1 (ix2 e j))
      else Ideal.ofBits .f32 0xF149F2CA#32) = ((wr (col x1 j0) : ℝ) : EReal) := by
    have hf : ∀ j, (if ((mr x0 x1 x2 x3 i j : ℝ) : EReal) = ((mr x0 x1 x2 x3 i j0 : ℝ) : EReal) then wt (fun e => x1 (ix2 e j))
        else Ideal.ofBits .f32 0xF149F2CA#32) = (((if j = j0 then wr (col x1 j0) else low : ℝ)) : EReal) := fun j => by
      by_cases hj : j = j0
      · subst hj
        rw [if_pos rfl, if_pos rfl]
        exact wt_real (col x1 j)
      · rw [if_neg fun h' => absurd (EReal.coe_eq_coe_iff.mp h') (ne_of_lt (h j hj)), if_neg hj, hlow]
    rw [show (fun j => if ((mr x0 x1 x2 x3 i j : ℝ) : EReal) = ((mr x0 x1 x2 x3 i j0 : ℝ) : EReal) then wt (fun e => x1 (ix2 e j))
      else Ideal.ofBits .f32 0xF149F2CA#32) = _ from funext hf]
    refine (big_unique (fun j => if j = j0 then wr (col x1 j0) else low) j0 fun j => ?_).trans ?_
    · by_cases hj : j = j0
      · rw [hj]
      · rw [if_neg hj, if_pos rfl]
        linarith [wr_low (col x1 j0)]
    · rw [if_pos rfl]
  unfold kLoss lossRow lossr
  rw [hm, hb, hw, hgr, margin_real]
  have h1 : dap (fun k => x0 (ix2 k i)) (fun k => x1 (ix2 k i)) = ((dar (col x0 i) (col x1 i) : ℝ) : EReal) := dap_real (col x0 i) (col x1 i)
  have h2 := dan_real (col x0 i) (col x1 j0)
    (big (simsOf (fun k a => x0 (ix2 k a)) (fun k a => x1 (ix2 k a)) i)) (by rw [← hgr]; exact hgt.ne')
  rw [h1, show (fun k => x0 (ix2 k i)) = col x0 i from rfl, h2, ← EReal.coe_sub, ← EReal.coe_add, coe_max_zero]

end Cert.Mine

end
-- ==== Proof.Gathers.lean ====
/- The two gathers by which the reference takes the selected column, and a minimum over words that one word decides. -/
module

public import proofs.«01_k».proof.Proof.RefTake

@[expose] public section

set_option maxRecDepth 16384

noncomputable section

namespace Cert.Mine

open Idealize.ShloMosaic

section

variable {α : Type}

/-- The dimension numbers of a gather of single elements by a pair of coordinates. -/
def pairDims (N M R : ℕ) (wf : GatherDims.WF ⟨2, ![N, M]⟩ ⟨2, ![R, 2]⟩ ⟨1, ![R]⟩ [] [0, 1] [] [0, 1] [] 1 ![1, 1]) :
    GatherDims ⟨2, ![N, M]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

/-- The gather by pairs, read at a place: the operand at the pair, each coordinate clamped. -/
theorem pair_gather (N M R : ℕ) (wf : GatherDims.WF ⟨2, ![N, M]⟩ ⟨2, ![R, 2]⟩ ⟨1, ![R]⟩ [] [0, 1] [] [0, 1] [] 1 ![1, 1])
    (x : (⟨2, ![N, M]⟩ : Shape).Idx → α) (idx : IVec ⟨2, ![R, 2]⟩ 32) (r : Fin R) (p : Fin N) (q : Fin M)
    (hp : min (idx (ix2 r 0)).toInt.toNat (N - 1) = p.val) (hq : min (idx (ix2 r 1)).toInt.toNat (M - 1) = q.val) :
    Host.gather (pairDims N M R wf) x idx (ix1 r) = x (ix2 p q) := by
  unfold Host.gather
  refine congrArg x (funext fun a => Fin.ext ?_)
  show (pairDims N M R wf).start (ix1 r) idx a + (pairDims N M R wf).batchCoord (ix1 r) a + (pairDims N M R wf).offCoord (ix1 r) a = _
  have hmem : a ∈ (pairDims N M R wf).collapsedSliceDims := by
    match a with
    | ⟨0, _⟩ => exact List.mem_cons_self
    | ⟨1, _⟩ => exact List.mem_cons_of_mem _ List.mem_cons_self
  rw [GatherDims.batchCoord_eq_zero _ _ _ List.not_mem_nil, GatherDims.offCoord_eq_zero _ _ _ (fun h => ((GatherDims.mem_sKept _ _).mp h).1 hmem)]
  simp only [Nat.add_zero]
  unfold GatherDims.start
  rw [dif_pos (show a ∈ (pairDims N M R wf).startIndexMap from hmem)]
  match a with
  | ⟨0, _⟩ =>
    have hsi : (pairDims N M R wf).siIdx (ix1 r) ⟨0, Nat.two_pos⟩ = ix2 r 0 := by
      funext b; refine Fin.ext ?_
      match b with
      | ⟨0, _⟩ => rfl
      | ⟨1, _⟩ => rfl
    refine Eq.trans ?_ hp
    rw [← hsi]
    rfl
  | ⟨1, _⟩ =>
    have hsi : (pairDims N M R wf).siIdx (ix1 r) ⟨1, Nat.one_lt_two⟩ = ix2 r 1 := by
      funext b; refine Fin.ext ?_
      match b with
      | ⟨0, _⟩ => rfl
      | ⟨1, _⟩ => rfl
    refine Eq.trans ?_ hq
    rw [← hsi]
    rfl

/-- The dimension numbers of a gather of whole columns. -/
def colDims (E N R : ℕ) (wf : GatherDims.WF ⟨2, ![E, N]⟩ ⟨2, ![R, 1]⟩ ⟨2, ![E, R]⟩ [0] [1] [] [1] [] 1 ![E, 1]) :
    GatherDims ⟨2, ![E, N]⟩ ⟨2, ![R, 1]⟩ ⟨2, ![E, R]⟩ where
  offsetDims := [0]
  collapsedSliceDims := [1]
  operandBatchingDims := []
  startIndicesBatchingDims := []
  startIndexMap := [1]
  indexVectorDim := 1
  sliceSizes := ![E, 1]
  wf := wf

/-- The gather of columns, read at a place: the operand in that row at the column named, clamped. -/
theorem col_gather (E N R : ℕ) (wf : GatherDims.WF ⟨2, ![E, N]⟩ ⟨2, ![R, 1]⟩ ⟨2, ![E, R]⟩ [0] [1] [] [1] [] 1 ![E, 1])
    (x : (⟨2, ![E, N]⟩ : Shape).Idx → α) (idx : IVec ⟨2, ![R, 1]⟩ 32) (e : Fin E) (r : Fin R) (p : Fin N)
    (hp : min (idx (ix2 r 0)).toInt.toNat (N - 1) = p.val) : Host.gather (colDims E N R wf) x idx (ix2 e r) = x (ix2 e p) := by
  unfold Host.gather
  refine congrArg x (funext fun a => Fin.ext ?_)
  show (colDims E N R wf).start (ix2 e r) idx a + (colDims E N R wf).batchCoord (ix2 e r) a + (colDims E N R wf).offCoord (ix2 e r) a = _
  rw [GatherDims.batchCoord_eq_zero _ _ _ List.not_mem_nil, Nat.add_zero]
  match a with
  | ⟨0, _⟩ =>
    unfold GatherDims.start
    rw [dif_neg (show ¬((⟨0, by decide⟩ : Fin 2) ∈ (colDims E N R wf).startIndexMap) from by
      show ¬((0 : Fin 2) ∈ ([1] : List (Fin 2)))
      decide), Nat.zero_add]
    unfold GatherDims.offCoord
    rw [dif_pos ((GatherDims.mem_sKept _ _).mpr ⟨by show ¬((0 : Fin 2) ∈ ([1] : List (Fin 2))); decide, List.not_mem_nil⟩)]
    rfl
  | ⟨1, _⟩ =>
    have hmem : (⟨1, by decide⟩ : Fin 2) ∈ (colDims E N R wf).startIndexMap := List.mem_cons_self
    rw [GatherDims.offCoord_eq_zero _ _ _ (fun h => ((GatherDims.mem_sKept _ _).mp h).1 hmem), Nat.add_zero]
    unfold GatherDims.start
    rw [dif_pos hmem]
    have hsi : (colDims E N R wf).siIdx (ix2 e r) ⟨0, Nat.one_pos⟩ = ix2 r 0 := by
      funext b; refine Fin.ext ?_
      match b with
      | ⟨0, _⟩ => rfl
      | ⟨1, _⟩ => rfl
    refine Eq.trans ?_ hp
    rw [← hsi]
    rfl

end

/-- Of two words the smaller, when it is the first. -/
theorem minsi_left (x y : BitVec 32) (h : x.toInt < y.toInt) : IntOp.minsi x y = x := by
  unfold IntOp.minsi
  rw [if_pos]
  unfold BitVec.slt
  exact decide_eq_true h

/-- Of two words the smaller, when it is the second. -/
theorem minsi_right (x y : BitVec 32) (h : y.toInt < x.toInt) : IntOp.minsi x y = y := by
  unfold IntOp.minsi
  rw [if_neg]
  unfold BitVec.slt
  exact fun h' => absurd (of_decide_eq_true h') (not_lt.mpr h.le)

/-- The minimum over words of which one is below every other. -/
theorem fold_minsi {n : ℕ} (b x top : BitVec 32) (r0 : Fin n) (hb : x.toInt < b.toInt) (ht : x.toInt < top.toInt) :
    (Finset.univ : Finset (Fin n)).fold IntOp.minsi b (fun r => if r = r0 then x else top) = x := by
  have key : ∀ s : Finset (Fin n), (r0 ∈ s → s.fold IntOp.minsi b (fun r => if r = r0 then x else top) = x)
      ∧ (r0 ∉ s → x.toInt < (s.fold IntOp.minsi b (fun r => if r = r0 then x else top)).toInt) := by
    intro s
    induction s using Finset.induction_on with
    | empty => exact ⟨fun h => absurd h (Finset.notMem_empty _), fun _ => hb⟩
    | insert a s ha ih =>
      rw [Finset.fold_insert ha]
      by_cases h : a = r0
      · subst h
        rw [if_pos rfl]
        exact ⟨fun _ => minsi_left _ _ (ih.2 ha), fun h' => absurd (Finset.mem_insert_self _ _) h'⟩
      · rw [if_neg h]
        constructor
        · intro h'
          rw [ih.1 ((Finset.mem_insert.mp h').resolve_left fun e => h e.symm)]
          exact minsi_right _ _ ht
        · intro h'
          have := ih.2 fun e => h' (Finset.mem_insert_of_mem e)
          generalize s.fold IntOp.minsi b (fun r => if r = r0 then x else top) = F at this
          unfold IntOp.minsi
          by_cases hc : top.slt F = true
          · rw [if_pos hc]; exact ht
          · rw [if_neg hc]; exact this
  exact (key Finset.univ).1 (Finset.mem_univ _)

end Cert.Mine

end
-- ==== Proof.RefLoss.lean ====
/- The reference's loss term, with one hardest column. -/
module

public import proofs.«01_k».proof.Proof.Loss
public import proofs.«01_k».proof.Proof.Gathers

@[expose] public section

set_option maxRecDepth 16384

noncomputable section

namespace Cert.Mine

open Idealize.ShloMosaic Cert.ReferenceIdeal.Read
open Cert.ReferenceIdeal (S128x4096 S2x4096 S_ S4096x4096 S4096x1 S4096 S4096x128 S4096x2)

/-- A number below 4096, read as a signed word. -/
theorem small_int (n : ℕ) (h : n < 4097) : (BitVec.ofNat 32 n).toInt = n := by
  rw [BitVec.toInt_eq_toNat_cond, BitVec.toNat_ofNat, if_pos (by omega)]
  omega

section

variable (x0 x1 : Vec Ideal S128x4096 .f32) (x2 : IVec S2x4096 32) (x3 : IVec S_ 32) (i j0 r0 : Fin 4096)
  (hu : ∀ j, j ≠ j0 → inc x0 x1 x2 x3 i j0 < inc x0 x1 x2 x3 i j) (hr : ranked x0 x1 i r0 = j0)

include hu in
theorem v80_unique : val_main_v80 (F := Ideal) x0 x1 x2 x3 (ix1 i) = inc x0 x1 x2 x3 i j0 :=
  (v80_least x0 x1 x2 x3 i).unique ⟨⟨j0, rfl⟩, fun y ⟨k, hk⟩ => by
    rw [← hk]
    by_cases h : k = j0
    · rw [h]
    · exact (hu k h).le⟩

include hu hr in
theorem v85_at (r : Fin 4096) :
    val_main_v85 (F := Ideal) x0 x1 x2 x3 (ix2 r i) = if r = r0 then BitVec.ofNat 32 r0.val else 4096#32 := by
  have e : idx_main_v82 (idx_main_v83 (ix2 r i)) = ix1 i := by
    funext a; match a with | ⟨0, _⟩ => rfl
  rw [val_main_v85_apply, val_main_v84_apply, v79_at, val_main_v83_apply, val_main_v82_apply, e, v80_unique x0 x1 x2 x3 i j0 hu,
    val_main_v81_apply, val_main_call4_v1_apply, val_main_call4_v0_apply, val_main_c_16_apply]
  show Scalar.select (BitVec.ofBool (decide (inc x0 x1 x2 x3 i (ranked x0 x1 i r) = inc x0 x1 x2 x3 i j0))) (BitVec.ofNat 32 r.val) 4096#32 = _
  by_cases h : r = r0
  · rw [if_pos h, h, hr, decide_eq_true rfl]
    rfl
  · have hne : ranked x0 x1 i r ≠ j0 := fun e => h (ranked_inj x0 x1 i (e.trans hr.symm))
    rw [if_neg h, decide_eq_false (hu _ hne).ne']
    rfl

include hu hr in
/-- The reference selects the rank of the hardest column. -/
theorem v86_at : val_main_v86 (F := Ideal) x0 x1 x2 x3 (ix1 i) = BitVec.ofNat 32 r0.val := by
  have e : ∀ r : Fin 4096, red0.lift (ix1 i) r = ix2 r i := fun r => by
    funext a; match a with | ⟨0, _⟩ => rfl | ⟨1, _⟩ => rfl
  have h := Host.reduce_eq_fold_single (a := (0 : Fin 2)) (IntOp.minsi (w := 32)) (val_main_v85 (F := Ideal) x0 x1 x2 x3)
    (val_main_c_17 (F := Ideal)) Cert.ReferenceIdeal.Gen.reducesTo_S4096x4096_S4096_d0 red0 Cert.ReferenceIdeal.Gen.h_S_ (ix1 i)
  unfold val_main_v86
  refine h.trans ?_
  have e2 : (val_main_v85 (F := Ideal) x0 x1 x2 x3 ∘ red0.lift (ix1 i)) = fun r => if r = r0 then BitVec.ofNat 32 r0.val else 4096#32 :=
    funext fun r => (congrArg (val_main_v85 (F := Ideal) x0 x1 x2 x3) (e r)).trans (v85_at x0 x1 x2 x3 i j0 r0 hu hr r)
  rw [e2, val_main_c_17_apply]
  have hr0 := r0.isLt
  have hs := small_int r0.val (by omega)
  have h1 : (BitVec.ofNat 32 r0.val).toInt < (2147483647#32 : BitVec 32).toInt := by
    rw [hs, show (2147483647#32 : BitVec 32).toInt = 2147483647 from by decide]; omega
  have h2 : (BitVec.ofNat 32 r0.val).toInt < (4096#32 : BitVec 32).toInt := by
    rw [hs, show (4096#32 : BitVec 32).toInt = 4096 from by decide]; omega
  exact fold_minsi (2147483647#32) (BitVec.ofNat 32 r0.val) (4096#32) r0 h1 h2

include hu hr in
theorem v92_at : val_main_v92 (F := Ideal) x0 x1 x2 x3 (ix1 i) = BitVec.ofNat 32 r0.val := by
  rw [val_main_v92_apply, val_main_v89_apply, val_main_v91_apply, val_main_v88_apply, val_main_v90_apply, val_main_c_18_apply, val_main_c_19_apply,
    v86_at x0 x1 x2 x3 i j0 r0 hu hr]
  exact wrap_eq _ r0.isLt

theorem v97_at (i : Fin 4096) : val_main_v97 (F := Ideal) (ix1 i) = BitVec.ofNat 32 i.val := by
  rw [val_main_v97_apply, val_main_v94_apply, val_main_v96_apply, val_main_v93_apply, val_main_v95_apply, val_main_c_20_apply, val_main_c_21_apply,
    val_main_v87_apply]
  exact wrap_eq _ i.isLt

include hu hr in
theorem v100_left : val_main_v100 (F := Ideal) x0 x1 x2 x3 (ix2 i 0) = BitVec.ofNat 32 r0.val := by
  have e : idx_main_v98 (ix2 i 0) = ix1 i := by
    funext a; match a with | ⟨0, _⟩ => rfl
  unfold val_main_v100
  refine (concatenate_pair_apply_left (s₁ := S4096x1) (s₂ := S4096x1) 1 _ _ Cert.ReferenceIdeal.Gen.concatenates_S4096x1_S4096x1_S4096x2_d1 (ix2 i 0) rfl (ix2 i 0)
    fun b => match b with | ⟨0, _⟩ => rfl | ⟨1, _⟩ => rfl).trans ?_
  rw [val_main_v98_apply, e, v92_at x0 x1 x2 x3 i j0 r0 hu hr]

theorem v100_right : val_main_v100 (F := Ideal) x0 x1 x2 x3 (ix2 i 1) = BitVec.ofNat 32 i.val := by
  have e : idx_main_v99 (ix2 i 0) = ix1 i := by
    funext a; match a with | ⟨0, _⟩ => rfl
  unfold val_main_v100
  refine (concatenate_pair_apply_right (s₁ := S4096x1) (s₂ := S4096x1) 1 _ _ Cert.ReferenceIdeal.Gen.concatenates_S4096x1_S4096x1_S4096x2_d1 (ix2 i 1) rfl rfl (ix2 i 0)
    (fun b hb => match b, hb with | ⟨0, _⟩, _ => rfl | ⟨1, _⟩, hb => absurd rfl hb) rfl).trans ?_
  rw [val_main_v99_apply, e, v97_at]

include hu hr in
/-- The reference's selected column. -/
theorem v101_at : val_main_v101 (F := Ideal) x0 x1 x2 x3 (ix1 i) = BitVec.ofNat 32 j0.val := by
  have h := pair_gather 4096 4096 4096 Cert.ReferenceIdeal.Gen.gather_S4096x4096_S4096x2_S4096_n_01_n_n_01_1_11_wf
    (val_main_v26 (F := Ideal) x0 x1) (val_main_v100 (F := Ideal) x0 x1 x2 x3) i r0 i
    (by rw [v100_left x0 x1 x2 x3 i j0 r0 hu hr]; exact clamp_eq _ r0.isLt) (by rw [v100_right]; exact clamp_eq _ i.isLt)
  unfold val_main_v101
  refine Eq.trans h ?_
  rw [v26_at, hr]

include hu hr in
theorem v108_at : val_main_v108 (F := Ideal) x0 x1 x2 x3 (ix1 i) = BitVec.ofNat 32 j0.val := by
  rw [val_main_v108_apply, val_main_v105_apply, val_main_v107_apply, val_main_v104_apply, val_main_v106_apply, val_main_c_22_apply, val_main_c_23_apply,
    v101_at x0 x1 x2 x3 i j0 r0 hu hr]
  exact wrap_eq _ j0.isLt

include hu hr in
/-- The selected column, normalised. -/
theorem v110_at (e : Fin 128) : val_main_v110 (F := Ideal) x0 x1 x2 x3 (ix2 e i) = unit (col x1 j0) e := by
  have e' : idx_main_v109 (ix2 i 0) = ix1 i := by
    funext a; match a with | ⟨0, _⟩ => rfl
  have h := col_gather 128 4096 4096 Cert.ReferenceIdeal.Gen.gather_S128x4096_S4096x1_S128x4096_0_1_n_n_1_1_1281_wf
    (val_main_v15 (F := Ideal) x1) (val_main_v109 (F := Ideal) x0 x1 x2 x3) e i j0
    (by rw [val_main_v109_apply, e', v108_at x0 x1 x2 x3 i j0 r0 hu hr]; exact clamp_eq _ j0.isLt)
  unfold val_main_v110
  refine Eq.trans h ?_
  rw [v15_at]

theorem v114_at (c : Fin 128) :
    val_main_v114 (F := Ideal) x0 x1 (ix2 i c) = unit (col x0 i) c - unit (col x1 i) c + eps := by
  have e1 : idx_main_v102 (ix2 i c) = ix2 c i := by
    funext a; match a with | ⟨0, _⟩ => rfl | ⟨1, _⟩ => rfl
  have e2 : idx_main_v103 (ix2 i c) = ix2 c i := by
    funext a; match a with | ⟨0, _⟩ => rfl | ⟨1, _⟩ => rfl
  rw [val_main_v114_apply, val_main_v112_apply, val_main_v102_apply, val_main_v103_apply, e1, e2, v7_at, v15_at, val_main_v113_apply, val_main_cst_24_apply]
  rfl

include hu hr in
theorem v120_at (c : Fin 128) :
    val_main_v120 (F := Ideal) x0 x1 x2 x3 (ix2 i c) = unit (col x0 i) c - unit (col x1 j0) c + eps := by
  have e1 : idx_main_v102 (ix2 i c) = ix2 c i := by
    funext a; match a with | ⟨0, _⟩ => rfl | ⟨1, _⟩ => rfl
  have e2 : idx_main_v111 (ix2 i c) = ix2 c i := by
    funext a; match a with | ⟨0, _⟩ => rfl | ⟨1, _⟩ => rfl
  rw [val_main_v120_apply, val_main_v118_apply, val_main_v102_apply, val_main_v111_apply, e1, e2, v7_at, v110_at x0 x1 x2 x3 i j0 r0 hu hr,
    val_main_v119_apply, val_main_cst_26_apply]
  rfl

/-- The reference's positive distance. -/
theorem v117_at : val_main_v117 (F := Ideal) x0 x1 (ix1 i) = ((dar (col x0 i) (col x1 i) : ℝ) : EReal) := by
  have hs : ∀ c : Fin 128, val_main_v115 (F := Ideal) x0 x1 (idx_main_v116 (ix1 i) c)
      = (unit (col x0 i) c - unit (col x1 i) c + eps) * (unit (col x0 i) c - unit (col x1 i) c + eps) := fun c => by
    have e : idx_main_v116 (ix1 i) c = ix2 i c := by
      funext a; match a with | ⟨0, _⟩ => rfl | ⟨1, _⟩ => rfl
    rw [e, val_main_v115_apply, v114_at]
    rfl
  rw [val_main_v117_apply, val_main_v116_apply, Finset.sum_congr rfl fun c _ => hs c, val_main_cst_25_apply, Ideal.ofBits_def, lit_zero, EReal.coe_zero,
    zero_add]
  exact dap_real (col x0 i) (col x1 i)

include hu hr in
/-- The reference's negative distance. -/
theorem v123_at : val_main_v123 (F := Ideal) x0 x1 x2 x3 (ix1 i) = ((dar (col x0 i) (col x1 j0) : ℝ) : EReal) := by
  have hs : ∀ c : Fin 128, val_main_v121 (F := Ideal) x0 x1 x2 x3 (idx_main_v122 (ix1 i) c)
      = (unit (col x0 i) c - unit (col x1 j0) c + eps) * (unit (col x0 i) c - unit (col x1 j0) c + eps) := fun c => by
    have e : idx_main_v122 (ix1 i) c = ix2 i c := by
      funext a; match a with | ⟨0, _⟩ => rfl | ⟨1, _⟩ => rfl
    rw [e, val_main_v121_apply, v120_at x0 x1 x2 x3 i j0 r0 hu hr]
    rfl
  rw [val_main_v123_apply, val_main_v122_apply, Finset.sum_congr rfl fun c _ => hs c, val_main_cst_27_apply, Ideal.ofBits_def, lit_zero, EReal.coe_zero,
    zero_add]
  exact dap_real (col x0 i) (col x1 j0)

include hu hr in
/-- The reference's loss term. -/
theorem v128_at : val_main_v128 (F := Ideal) x0 x1 x2 x3 (ix1 i) = ((lossr x0 x1 i j0 : ℝ) : EReal) := by
  rw [val_main_v128_apply, val_main_v126_apply, val_main_v124_apply, v117_at, v123_at x0 x1 x2 x3 i j0 r0 hu hr, val_main_v125_apply, val_main_v127_apply,
    val_main_cst_28_apply, val_main_cst_29_apply, Ideal.ofBits_def, Ideal.ofBits_def, margin_real, lit_zero, EReal.coe_zero]
  unfold lossr
  rw [← coe_max_zero, EReal.coe_add, EReal.coe_sub]
  rfl

end

/-- The reference's loss is the kernel's accumulator after the last block. -/
theorem loss_eq (x0 x1 : Vec Ideal S128x4096 .f32) (x2 : IVec S2x4096 32) (x3 : IVec S_ 32) (hd : Drawn x2 x3)
    (h : ∀ i, ∃ j0, ∀ j, j ≠ j0 → Real.sqrt (2 - 2 * mr x0 x1 x2 x3 i j0) < Real.sqrt (2 - 2 * mr x0 x1 x2 x3 i j)) (z : EReal) (hz : z = 0)
    (p : S_.Idx) :
    val_main_v130 (F := Ideal) x0 x1 x2 x3 p
      = accum z (kLoss (fun k a => x0 (ix2 k a)) (fun k a => x1 (ix2 k a)) (fun d a => x2 (ix2 d a)) (x3 ix0)) 3 := by
  choose j0 hj using h
  have hk : kLoss (fun k a => x0 (ix2 k a)) (fun k a => x1 (ix2 k a)) (fun d a => x2 (ix2 d a)) (x3 ix0)
      = fun i => ((lossr x0 x1 i (j0 i) : ℝ) : EReal) :=
    funext fun i => kLoss_real x0 x1 x2 x3 hd i (j0 i) fun j hne => by
      by_contra hle
      exact absurd (hj i j hne) (not_lt.mpr (Real.sqrt_le_sqrt (by linarith [not_lt.mp hle])))
  have hv : ∀ i, val_main_v128 (F := Ideal) x0 x1 x2 x3 (ix1 i) = ((lossr x0 x1 i (j0 i) : ℝ) : EReal) := fun i => by
    obtain ⟨r0, hr⟩ := ranked_surj x0 x1 i (j0 i)
    refine v128_at x0 x1 x2 x3 i (j0 i) r0 (fun j hne => ?_) hr
    rw [inc_real, inc_real]
    exact EReal.coe_lt_coe_iff.mpr (hj i j hne)
  rw [hk, accum_real z hz, val_main_v130_apply, val_main_v129_apply, sum_positions]
  rw [Finset.sum_congr rfl fun i _ => hv i, val_main_cst_30_apply, val_main_cst_31_apply, Ideal.ofBits_def, lit_zero, EReal.coe_zero, zero_add]
  exact mean_real _

end Cert.Mine

end
-- ==== Proof.ClaimLoss.lean ====
/- The claim of the loss. -/
module

public import proofs.«01_k».proof.Proof.Runs
public import proofs.«01_k».proof.Proof.RefLoss

@[expose] public section

set_option maxRecDepth 16384

noncomputable section

namespace Cert.Mine

open Idealize.ShloMosaic Idealize.SL.Sem

/-- The shape relations `hardest_unique` and its mask state. -/
theorem hardest_facts : Cert.Pre_hardest_unique.Facts where
  reducesTo_S128x4096_S4096_d0 := Cert.ReferenceIdeal.Gen.reducesTo_S128x4096_S4096_d0
  h_S_ := Cert.ReferenceIdeal.Gen.h_S_
  bcast_S4096_S1x4096_1 := Cert.ReferenceIdeal.Gen.bcast_S4096_S1x4096_1
  bcast_S_S1x4096 := Cert.ReferenceIdeal.Gen.bcast_S_S1x4096
  bcast_S1x4096_S128x4096_0_1 := Cert.ReferenceIdeal.Gen.bcast_S1x4096_S128x4096_0_1
  transposes_S128x4096_S4096x128_1_0 := Cert.ReferenceIdeal.Gen.transposes_S128x4096_S4096x128_1_0
  bcast_S_S4096x4096 := Cert.ReferenceIdeal.Gen.bcast_S_S4096x4096
  slices_S2x4096_S1x4096_0_0 := by decide
  shapeCasts_S1x4096_S4096 := by decide
  slices_S2x4096_S1x4096_1_0 := by decide
  bcast_S4096_S4096x1_0 := Cert.ReferenceIdeal.Gen.bcast_S4096_S4096x1_0
  bcast_S1x4096_S4096x4096_0_1 := by decide
  bcast_S4096x1_S4096x4096_0_1 := by decide
  reducesTo_S4096x4096_S4096_d1 := by decide
  bcast_S_S2x4096 := by decide
  bcast_S_S4096 := Cert.ReferenceIdeal.Gen.bcast_S_S4096
  dot_S4096x128_S128x4096_S4096x4096_1_0_0_1_n_n_wf := Cert.ReferenceIdeal.Gen.dot_S4096x128_S128x4096_S4096x4096_1_0_0_1_n_n_wf

theorem only_loss_facts : Cert.On_only_loss.Facts where
  bcast_S_S1x1 := by decide
  bcast_S_S4096x1 := by decide

section

variable [Cert.Pre_hardest_unique.Facts]

open Cert.ReferenceIdeal.Read
open Cert.ReferenceIdeal (S128x4096 S2x4096 S_ S4096x4096 S4096x1 S4096 S1x4096)
open Cert.Pre_hardest_unique.Facts

/-- One coordinate's closeness at every pair, as the precondition computes it. -/
def closeAll (x : IVec S4096 32) (x3 : IVec S_ 32) : IVec S4096x4096 1 :=
  cmpi .sle (absi (subi (broadcastInDim S4096x4096 ![0, 1] bcast_S1x4096_S4096x4096_0_1 (broadcastInDim S1x4096 ![1] bcast_S4096_S1x4096_1 x))
    (broadcastInDim S4096x4096 ![0, 1] bcast_S4096x1_S4096x4096_0_1 (broadcastInDim S4096x1 ![0] bcast_S4096_S4096x1_0 x))))
    (broadcastInDim S4096x4096 ![] bcast_S_S4096x4096 x3)

theorem closeAll_at (x : IVec S4096 32) (x3 : IVec S_ 32) (i j : Fin 4096) :
    closeAll x x3 (ix2 i j) = within (x3 ix0) (x (ix1 i)) (x (ix1 j)) := by
  have e1 : broadcastInDim S4096x4096 ![0, 1] bcast_S1x4096_S4096x4096_0_1 (broadcastInDim S1x4096 ![1] bcast_S4096_S1x4096_1 x) (ix2 i j)
      = x (ix1 j) := by
    refine (broadcastInDim_apply _ bcast_S1x4096_S4096x4096_0_1 _ (ix2 i j) (ix2 0 j) fun a => match a with | ⟨0, _⟩ => rfl | ⟨1, _⟩ => rfl).trans ?_
    exact broadcastInDim_apply _ bcast_S4096_S1x4096_1 x (ix2 0 j) (ix1 j) fun a => match a with | ⟨0, _⟩ => rfl
  have e2 : broadcastInDim S4096x4096 ![0, 1] bcast_S4096x1_S4096x4096_0_1 (broadcastInDim S4096x1 ![0] bcast_S4096_S4096x1_0 x) (ix2 i j)
      = x (ix1 i) := by
    refine (broadcastInDim_apply _ bcast_S4096x1_S4096x4096_0_1 _ (ix2 i j) (ix2 i 0) fun a => match a with | ⟨0, _⟩ => rfl | ⟨1, _⟩ => rfl).trans ?_
    exact broadcastInDim_apply _ bcast_S4096_S4096x1_0 x (ix2 i 0) (ix1 i) fun a => match a with | ⟨0, _⟩ => rfl
  have e3 : broadcastInDim S4096x4096 ![] bcast_S_S4096x4096 x3 (ix2 i j) = x3 ix0 :=
    broadcastInDim_apply _ bcast_S_S4096x4096 x3 (ix2 i j) ix0 fun a => a.elim0
  show IntOp.cmpi .sle (IntOp.absi (IntOp.subi _ _)) _ = _
  rw [e1, e2, e3]
  rfl

/-- The distances with the correct matches put at 2, as the precondition computes them. -/
def held (x0 x1 : FVec Ideal S128x4096 .f32) (x2 : IVec S2x4096 32) (x3 : IVec S_ 32) : FVec Ideal S4096x4096 .f32 :=
  select (andi (closeAll (val_main_v46 (F := Ideal) x2) x3) (closeAll (val_main_v48 (F := Ideal) x2) x3))
    (broadcastInDim S4096x4096 ![] bcast_S_S4096x4096 (constant (F := Ideal) S_ .f32 0x40000000#32)) (val_main_v23 (F := Ideal) x0 x1)

theorem held_at (x0 x1 : FVec Ideal S128x4096 .f32) (x2 : IVec S2x4096 32) (x3 : IVec S_ 32) (i j : Fin 4096) :
    held x0 x1 x2 x3 (ix2 i j) = ((Real.sqrt (2 - 2 * mr x0 x1 x2 x3 i j) : ℝ) : EReal) := by
  have e : broadcastInDim S4096x4096 ![] bcast_S_S4096x4096 (constant (F := Ideal) S_ .f32 0x40000000#32) (ix2 i j) = ((2 : ℝ) : EReal) :=
    (broadcastInDim_apply _ bcast_S_S4096x4096 _ (ix2 i j) ix0 fun a => a.elim0).trans lit_two
  rw [← inc_real]
  show Scalar.select (IntOp.andi (closeAll _ x3 (ix2 i j)) (closeAll _ x3 (ix2 i j))) _ _ = _
  rw [closeAll_at, closeAll_at, e, v23_at, v46_at, v46_at, v48_at, v48_at]
  rfl

/-- The precondition `hardest_unique` gives each row one hardest column. -/
theorem hardest_of_fn (x0 x1 : FVec Ideal S128x4096 .f32) (x2 : IVec S2x4096 32) (x3 : IVec S_ 32)
    (h : (Cert.Pre_hardest_unique.fn (F := Ideal) x0 x1 x2 x3).2.2 = fun _ => 1#1) (i : Fin 4096) :
    ∃ j0, ∀ j, j ≠ j0 → Real.sqrt (2 - 2 * mr x0 x1 x2 x3 i j0) < Real.sqrt (2 - 2 * mr x0 x1 x2 x3 i j) :=
  unique_of_test (held x0 x1 x2 x3) reducesTo_S4096x4096_S4096_d1 h_S_ bcast_S4096_S4096x1_0 bcast_S4096x1_S4096x4096_0_1
    bcast_S_S4096x4096 bcast_S_S4096 i (fun j => Real.sqrt (2 - 2 * mr x0 x1 x2 x3 i j)) (held_at x0 x1 x2 x3 i) (congrFun h (ix1 i))

/-- The precondition `hardest_unique` gives the ranges as well. -/
theorem drawn_of_hardest (x0 x1 : FVec Ideal S128x4096 .f32) (x2 : IVec S2x4096 32) (x3 : IVec S_ 32)
    (h1 : (Cert.Pre_hardest_unique.fn (F := Ideal) x0 x1 x2 x3).1 = fun _ => 1#1)
    (h2 : (Cert.Pre_hardest_unique.fn (F := Ideal) x0 x1 x2 x3).2.1 = fun _ => 1#1) : Drawn x2 x3 :=
  drawn_of_tests x2 x3 (fun d j => congrFun h1 (ix2 d j)) (congrFun h2 ix0)

/-- The reference's loss is the kernel's where each source column has one hardest target column. -/
theorem loss_result (m : (ℓ : Loc Cert.KernelIdeal.nD Cert.KernelIdeal.τ Cert.KernelIdeal.sig) → Buf (Elt Ideal) ℓ)
    (hpre : Cert.Pre_KernelIdeal_hardest_unique m) (c : Dev Cert.KernelIdeal.nD) (i : Cert.ReferenceIdeal.S1x1.Idx) :
    val_main_v131 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) i
      = Cert.KernelIdeal.Value.G7 m c i := by
  have hd := drawn_of_hardest _ _ _ _ (hpre c).1 (hpre c).2.1
  have hn := hardest_of_fn _ _ _ _ (hpre c).2.2
  have e' : i = ix2 (i 0) (i 1) := by
    funext a; match a with | ⟨0, _⟩ => rfl | ⟨1, _⟩ => rfl
  rw [e']
  unfold val_main_v131 shapeCast
  refine (loss_eq _ _ _ _ hd hn (Cert.KernelIdeal.Gen.k0_pay1 (F := Ideal) (ix2 (i 0) (i 1))) ?_ _).trans (G7_at m c (i 0) (i 1)).symm
  exact lit_zero.trans EReal.coe_zero

end

/-- The loss the kernel returns is the reference's, for points in their range and a relaxation that is not negative, where each source column has one
    hardest target column. -/
theorem claim_loss [Cert.Pre_hardest_unique.Facts] [Cert.On_only_loss.Facts] :
    Cert.algebraic_KernelIdeal_ReferenceIdeal_on_only_loss_pre_hardest_unique := by
  intro m g m' g' hpre hag
  refine ⟨fun c => Cert.KernelIdeal.Value.G7 m c, fun c => Cert.KernelIdeal.Value.G8 m c, fun c => Cert.KernelIdeal.Value.G6 m c, ?_, ?_⟩
  · exact (θ_run Cert.KernelIdeal.defs _ _).mono
      (fun r h c => ⟨fun i _ => congrFun (h c).2.1 i, fun i _ => congrFun (h c).2.2.1 i, fun i _ => congrFun (h c).1 i, (h c).2.2.2⟩)
      (Cert.KernelIdeal.Value.run m g)
  · refine (θ_run Cert.ReferenceIdeal.defs _ _).mono (fun r h c => ⟨fun i _ => ?_, fun i hi => ?_, fun i hi => ?_, (h c).2.2.2⟩)
      (Cert.ReferenceIdeal.Value.run (F := Ideal) m' g')
    · have hr := (h c).1
      have he := Cert.ReferenceIdeal.Read.val_main_v131_eq (F := Ideal) (StableHlo.launchContents m' c)
      rw [StableHlo.launchContents_devRef, StableHlo.launchContents_devRef, StableHlo.launchContents_devRef, StableHlo.launchContents_devRef,
        (hag c).1, (hag c).2.1, (hag c).2.2.1, (hag c).2.2.2] at he
      exact (congrFun (hr.trans he) i).trans (loss_result m hpre c i)
    · exact absurd (show (0#1 : BitVec 1) = 1#1 from hi) (by decide)
    · exact absurd (show (0#1 : BitVec 1) = 1#1 from hi) (by decide)

end Cert.Mine

end
-- ==== Proof.lean ====
/- The certificate: the frames, the named literal, the distances, the recall and the loss. -/
module

public import proofs.«01_k».proof.Defs
public import proofs.«01_k».proof.Proof.ClaimDist
public import proofs.«01_k».proof.Proof.ClaimRecall
public import proofs.«01_k».proof.Proof.ClaimLoss

@[expose] public section

noncomputable section

namespace Cert.Proof

open Cert.Mine

/-- The whole certificate. -/
theorem claim : Cert.Claim :=
  ⟨Cert.Kernel.Gen.facts, Cert.KernelIdeal.Gen.facts, Cert.ReferenceIdeal.Gen.facts, drawn_facts, nearest_facts, hardest_facts,
    only_dist_facts, only_recall_facts, only_loss_facts,
    frame_kernel, frame_ideal, fun m g _ => frame_ideal m g trivial, fun m g _ => frame_ideal m g trivial, fun m g _ => frame_ideal m g trivial,
    frame_reference, fun m g _ => frame_reference m g trivial, fun m g _ => frame_reference m g trivial, fun m g _ => frame_reference m g trivial,
    named, @claim_dist drawn_facts only_dist_facts, @claim_recall nearest_facts only_recall_facts, @claim_loss hardest_facts only_loss_facts⟩

end Cert.Proof

end
